-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_adapters_named [hPre_adapters_named : Cert.Pre_adapters_named.Facts] (m : (ℓ : Loc Cert.KernelIdeal.nD Cert.KernelIdeal.τ Cert.KernelIdeal.sig) → Buf (Elt Ideal) ℓ) : Prop :=
  ∀ c : Dev Cert.KernelIdeal.nD,
    (Cert.Pre_adapters_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adapters_named [hPre_adapters_named : Cert.Pre_adapters_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adapters_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_adapters_named [hKernelIdeal : Cert.KernelIdeal.Facts] [hPre_adapters_named : Cert.Pre_adapters_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_adapters_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_adapters_named [hReferenceIdeal : Cert.ReferenceIdeal.Facts] [hPre_adapters_named : Cert.Pre_adapters_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adapters_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_adapters_named [hKernelIdeal : Cert.KernelIdeal.Facts] [hReferenceIdeal : Cert.ReferenceIdeal.Facts] [hPre_adapters_named : Cert.Pre_adapters_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_adapters_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v12_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_adapters_named : Cert.Pre_adapters_named.Facts),
    quiescent_Kernel (hKernel := hKernel)
    ∧ quiescent_KernelIdeal (hKernelIdeal := hKernelIdeal)
    ∧ quiescent_KernelIdeal_pre_adapters_named (hKernelIdeal := hKernelIdeal) (hPre_adapters_named := hPre_adapters_named)
    ∧ quiescent_ReferenceIdeal (hReferenceIdeal := hReferenceIdeal)
    ∧ quiescent_ReferenceIdeal_pre_adapters_named (hReferenceIdeal := hReferenceIdeal) (hPre_adapters_named := hPre_adapters_named)
    ∧ preserves_Kernel_KernelIdeal
    ∧ algebraic_KernelIdeal_ReferenceIdeal_pre_adapters_named (hKernelIdeal := hKernelIdeal) (hReferenceIdeal := hReferenceIdeal) (hPre_adapters_named := hPre_adapters_named)
-- ==== Pre_adapters_named.lean ====
abbrev S256x1x4096 : Shape := ⟨3, ![256, 1, 4096]⟩
abbrev S256 : Shape := ⟨1, ![256]⟩
abbrev S512x28672 : Shape := ⟨2, ![512, 28672]⟩
abbrev S32x28672 : Shape := ⟨2, ![32, 28672]⟩
abbrev S1792x4096 : Shape := ⟨2, ![1792, 4096]⟩
abbrev S112x4096 : Shape := ⟨2, ![112, 4096]⟩
abbrev S13x4096x128 : Shape := ⟨3, ![13, 4096, 128]⟩
abbrev S13x2x64x14336 : Shape := ⟨4, ![13, 2, 64, 14336]⟩
abbrev S13x14336x64 : Shape := ⟨3, ![13, 14336, 64]⟩
abbrev S13x64x4096 : Shape := ⟨3, ![13, 64, 4096]⟩
abbrev S13 : Shape := ⟨1, ![13]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x1x4096 .bf16) (main_arg1 : IVec S256 32) (main_arg2 : IVec S512x28672 32) (main_arg3 : FVec F S32x28672 .bf16) (main_arg4 : IVec S1792x4096 32) (main_arg5 : FVec F S112x4096 .bf16) (main_arg6 : FVec F S13x4096x128 .bf16) (main_arg7 : FVec F S13x2x64x14336 .bf16) (main_arg8 : FVec F S13x14336x64 .bf16) (main_arg9 : FVec F S13x64x4096 .bf16) (main_arg10 : FVec F S13 .f32) : IVec S256 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 13#32
  let main_v2 : IVec S256 32 := broadcastInDim S256 ![] bcast_S_S256 main_c_0
  let main_v3 : IVec S256 1 := cmpi .slt main_arg1 main_v2
  let main_v4 : IVec S256 1 := andi main_v1 main_v3
  main_v4
-- ==== Kernel.lean ====
abbrev S256x1x4096 : Shape := ⟨3, ![256, 1, 4096]⟩
abbrev S256 : Shape := ⟨1, ![256]⟩
abbrev S512x28672 : Shape := ⟨2, ![512, 28672]⟩
abbrev S32x28672 : Shape := ⟨2, ![32, 28672]⟩
abbrev S1792x4096 : Shape := ⟨2, ![1792, 4096]⟩
abbrev S112x4096 : Shape := ⟨2, ![112, 4096]⟩
abbrev S13x4096x128 : Shape := ⟨3, ![13, 4096, 128]⟩
abbrev S13x2x64x14336 : Shape := ⟨4, ![13, 2, 64, 14336]⟩
abbrev S13x14336x64 : Shape := ⟨3, ![13, 14336, 64]⟩
abbrev S13x64x4096 : Shape := ⟨3, ![13, 64, 4096]⟩
abbrev S13 : Shape := ⟨1, ![13]⟩
abbrev S256x4096 : Shape := ⟨2, ![256, 4096]⟩
abbrev S256x1 : Shape := ⟨2, ![256, 1]⟩
abbrev S_ : Shape := ⟨0, ![]⟩
abbrev S256x128 : Shape := ⟨2, ![256, 128]⟩
abbrev S1x4096x128 : Shape := ⟨3, ![1, 4096, 128]⟩
abbrev S4096x128 : Shape := ⟨2, ![4096, 128]⟩
abbrev S13x64x14336 : Shape := ⟨3, ![13, 64, 14336]⟩
abbrev S256x14336 : Shape := ⟨2, ![256, 14336]⟩
abbrev S256x64 : Shape := ⟨2, ![256, 64]⟩
abbrev S512x512 : Shape := ⟨2, ![512, 512]⟩
abbrev S32x512 : Shape := ⟨2, ![32, 512]⟩
abbrev S13x2x64x512 : Shape := ⟨4, ![13, 2, 64, 512]⟩
abbrev S13x64x512 : Shape := ⟨3, ![13, 64, 512]⟩
abbrev S256x512 : Shape := ⟨2, ![256, 512]⟩
abbrev S512x8x512 : Shape := ⟨3, ![512, 8, 512]⟩
abbrev S512x1x512 : Shape := ⟨3, ![512, 1, 512]⟩
abbrev S4096x512 : Shape := ⟨2, ![4096, 512]⟩
abbrev S32x128x512 : Shape := ⟨3, ![32, 128, 512]⟩
abbrev S32x1x512 : Shape := ⟨3, ![32, 1, 512]⟩
abbrev S1x1x64x512 : Shape := ⟨4, ![1, 1, 64, 512]⟩
abbrev S64x512 : Shape := ⟨2, ![64, 512]⟩
abbrev S1x64x512 : Shape := ⟨3, ![1, 64, 512]⟩
abbrev S1792x256 : Shape := ⟨2, ![1792, 256]⟩
abbrev S112x256 : Shape := ⟨2, ![112, 256]⟩
abbrev S13x64x256 : Shape := ⟨3, ![13, 64, 256]⟩
abbrev S256x256 : Shape := ⟨2, ![256, 256]⟩
abbrev S1792x8x256 : Shape := ⟨3, ![1792, 8, 256]⟩
abbrev S1792x1x256 : Shape := ⟨3, ![1792, 1, 256]⟩
abbrev S14336x256 : Shape := ⟨2, ![14336, 256]⟩
abbrev S112x128x256 : Shape := ⟨3, ![112, 128, 256]⟩
abbrev S112x1x256 : Shape := ⟨3, ![112, 1, 256]⟩
abbrev S1x64x256 : Shape := ⟨3, ![1, 64, 256]⟩
abbrev S64x256 : Shape := ⟨2, ![64, 256]⟩
abbrev S256x1x14336 : Shape := ⟨3, ![256, 1, 14336]⟩

abbrev nBuf : Space → Nat
  | .hbm => 30
  | .vmem => 38
  | .smem => 0
  | _ => 0

abbrev bufTy : (tb : Table) → Fin (tcTables nBuf tb) → BufTy
  | .hbm, ⟨0, _⟩ => ⟨S256x1x4096, .bf16⟩
  | .hbm, ⟨1, _⟩ => ⟨S256, .i32⟩
  | .hbm, ⟨2, _⟩ => ⟨S512x28672, .i32⟩
  | .hbm, ⟨3, _⟩ => ⟨S32x28672, .bf16⟩
  | .hbm, ⟨4, _⟩ => ⟨S1792x4096, .i32⟩
  | .hbm, ⟨5, _⟩ => ⟨S112x4096, .bf16⟩
  | .hbm, ⟨6, _⟩ => ⟨S13x4096x128, .bf16⟩
  | .hbm, ⟨7, _⟩ => ⟨S13x2x64x14336, .bf16⟩
  | .hbm, ⟨8, _⟩ => ⟨S13x14336x64, .bf16⟩
  | .hbm, ⟨9, _⟩ => ⟨S13x64x4096, .bf16⟩
  | .hbm, ⟨10, _⟩ => ⟨S13, .f32⟩
  | .hbm, ⟨11, _⟩ => ⟨S256x4096, .bf16⟩
  | .hbm, ⟨12, _⟩ => ⟨S256x1, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256, .f32⟩
  | .hbm, ⟨22, _⟩ => ⟨S256x1, .f32⟩
  | .hbm, ⟨23, _⟩ => ⟨S256x128, .bf16⟩
  | .hbm, ⟨24, _⟩ => ⟨S13x64x14336, .bf16⟩
  | .hbm, ⟨25, _⟩ => ⟨S256x14336, .bf16⟩
  | .hbm, ⟨26, _⟩ => ⟨S256x64, .bf16⟩
  | .hbm, ⟨27, _⟩ => ⟨S256x4096, .bf16⟩
  | .hbm, ⟨28, _⟩ => ⟨S256x1x4096, .bf16⟩
  | .hbm, ⟨29, _⟩ => ⟨S256x1x14336, .bf16⟩
  | .local _ .vmem, ⟨0, _⟩ => ⟨S256x4096, .bf16⟩
  | .local _ .vmem, ⟨1, _⟩ => ⟨S256x1, .i32⟩
  | .local _ .vmem, ⟨2, _⟩ => ⟨S256x1, .f32⟩
  | .local _ .vmem, ⟨3, _⟩ => ⟨S1x4096x128, .bf16⟩
  | .local _ .vmem, ⟨4, _⟩ => ⟨S1x4096x128, .bf16⟩
  | .local _ .vmem, ⟨5, _⟩ => ⟨S256x128, .bf16⟩
  | .local _ .vmem, ⟨6, _⟩ => ⟨S256x128, .f32⟩
  | .local _ .vmem, ⟨7, _⟩ => ⟨S256x4096, .bf16⟩
  | .local _ .vmem, ⟨8, _⟩ => ⟨S256x1, .i32⟩
  | .local _ .vmem, ⟨9, _⟩ => ⟨S256x1, .f32⟩
  | .local _ .vmem, ⟨10, _⟩ => ⟨S256x128, .bf16⟩
  | .local _ .vmem, ⟨11, _⟩ => ⟨S512x512, .i32⟩
  | .local _ .vmem, ⟨12, _⟩ => ⟨S512x512, .i32⟩
  | .local _ .vmem, ⟨13, _⟩ => ⟨S512x512, .i32⟩
  | .local _ .vmem, ⟨14, _⟩ => ⟨S512x512, .i32⟩
  | .local _ .vmem, ⟨15, _⟩ => ⟨S32x512, .bf16⟩
  | .local _ .vmem, ⟨16, _⟩ => ⟨S32x512, .bf16⟩
  | .local _ .vmem, ⟨17, _⟩ => ⟨S32x512, .bf16⟩
  | .local _ .vmem, ⟨18, _⟩ => ⟨S32x512, .bf16⟩
  | .local _ .vmem, ⟨19, _⟩ => ⟨S13x2x64x512, .bf16⟩
  | .local _ .vmem, ⟨20, _⟩ => ⟨S13x2x64x512, .bf16⟩
  | .local _ .vmem, ⟨21, _⟩ => ⟨S13x64x512, .bf16⟩
  | .local _ .vmem, ⟨22, _⟩ => ⟨S13x64x512, .bf16⟩
  | .local _ .vmem, ⟨23, _⟩ => ⟨S256x512, .bf16⟩
  | .local _ .vmem, ⟨24, _⟩ => ⟨S256x512, .bf16⟩
  | .local _ .vmem, ⟨25, _⟩ => ⟨S256x64, .bf16⟩
  | .local _ .vmem, ⟨26, _⟩ => ⟨S256x64, .f32⟩
  | .local _ .vmem, ⟨27, _⟩ => ⟨S256x14336, .bf16⟩
  | .local _ .vmem, ⟨28, _⟩ => ⟨S256x1, .i32⟩
  | .local _ .vmem, ⟨29, _⟩ => ⟨S256x64, .bf16⟩
  | .local _ .vmem, ⟨30, _⟩ => ⟨S1792x256, .i32⟩
  | .local _ .vmem, ⟨31, _⟩ => ⟨S1792x256, .i32⟩
  | .local _ .vmem, ⟨32, _⟩ => ⟨S112x256, .bf16⟩
  | .local _ .vmem, ⟨33, _⟩ => ⟨S112x256, .bf16⟩
  | .local _ .vmem, ⟨34, _⟩ => ⟨S13x64x256, .bf16⟩
  | .local _ .vmem, ⟨35, _⟩ => ⟨S13x64x256, .bf16⟩
  | .local _ .vmem, ⟨36, _⟩ => ⟨S256x256, .bf16⟩
  | .local _ .vmem, ⟨37, _⟩ => ⟨S256x256, .bf16⟩
  | _, _ => ⟨S256x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc2_sem0_0 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v19 : BitVec 1 := Scalar.cmpi .eq arg0 c12_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![28], ![false]⟩

def k1_cond2 (i : grid1.Coords) : BitVec 1 :=
  let arg0 : BitVec 32 := BitVec.ofNat 32 (i 0).val
  let c27_i32 : BitVec 32 := 27#32
  let v446 : BitVec 1 := Scalar.cmpi .eq arg0 c27_i32
  let v447 : BitVec 32 := Scalar.extui v446
  let c0_i32_283 : BitVec 32 := 0#32
  let v448 : BitVec 1 := Scalar.cmpi .ne v447 c0_i32_283
  v448

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S32x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S13x2x64x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S13x64x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S256x64 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x14336 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1792x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S112x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S13x64x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S256x1x4096 : Shape := ⟨3, ![256, 1, 4096]⟩
abbrev S256 : Shape := ⟨1, ![256]⟩
abbrev S512x28672 : Shape := ⟨2, ![512, 28672]⟩
abbrev S32x28672 : Shape := ⟨2, ![32, 28672]⟩
abbrev S1792x4096 : Shape := ⟨2, ![1792, 4096]⟩
abbrev S112x4096 : Shape := ⟨2, ![112, 4096]⟩
abbrev S13x4096x128 : Shape := ⟨3, ![13, 4096, 128]⟩
abbrev S13x2x64x14336 : Shape := ⟨4, ![13, 2, 64, 14336]⟩
abbrev S13x14336x64 : Shape := ⟨3, ![13, 14336, 64]⟩
abbrev S13x64x4096 : Shape := ⟨3, ![13, 64, 4096]⟩
abbrev S13 : Shape := ⟨1, ![13]⟩
abbrev S256x4096 : Shape := ⟨2, ![256, 4096]⟩
abbrev S256x1 : Shape := ⟨2, ![256, 1]⟩
abbrev S1x13 : Shape := ⟨2, ![1, 13]⟩
abbrev S256x13 : Shape := ⟨2, ![256, 13]⟩
abbrev S_ : Shape := ⟨0, ![]⟩
abbrev S256x1x1 : Shape := ⟨3, ![256, 1, 1]⟩
abbrev S8 : Shape := ⟨1, ![8]⟩
abbrev S512x1x28672 : Shape := ⟨3, ![512, 1, 28672]⟩
abbrev S1x8x1 : Shape := ⟨3, ![1, 8, 1]⟩
abbrev S512x8x28672 : Shape := ⟨3, ![512, 8, 28672]⟩
abbrev S32x128x28672 : Shape := ⟨3, ![32, 128, 28672]⟩
abbrev S32x1x28672 : Shape := ⟨3, ![32, 1, 28672]⟩
abbrev S4096x28672 : Shape := ⟨2, ![4096, 28672]⟩
abbrev S256x28672 : Shape := ⟨2, ![256, 28672]⟩
abbrev S256x13x128 : Shape := ⟨3, ![256, 13, 128]⟩
abbrev S1 : Shape := ⟨1, ![1]⟩
abbrev S1x1x1 : Shape := ⟨3, ![1, 1, 1]⟩
abbrev S256x1x128 : Shape := ⟨3, ![256, 1, 128]⟩
abbrev S256x128 : Shape := ⟨2, ![256, 128]⟩
abbrev S256x13x1x1 : Shape := ⟨4, ![256, 13, 1, 1]⟩
abbrev S256x1x2x64 : Shape := ⟨4, ![256, 1, 2, 64]⟩
abbrev S256x13x2x64 : Shape := ⟨4, ![256, 13, 2, 64]⟩
abbrev S2x14336x256 : Shape := ⟨3, ![2, 14336, 256]⟩
abbrev S256x2x14336 : Shape := ⟨3, ![256, 2, 14336]⟩
abbrev S256x1x14336 : Shape := ⟨3, ![256, 1, 14336]⟩
abbrev S256x14336 : Shape := ⟨2, ![256, 14336]⟩
abbrev S1792x1x4096 : Shape := ⟨3, ![1792, 1, 4096]⟩
abbrev S1792x8x4096 : Shape := ⟨3, ![1792, 8, 4096]⟩
abbrev S112x128x4096 : Shape := ⟨3, ![112, 128, 4096]⟩
abbrev S112x1x4096 : Shape := ⟨3, ![112, 1, 4096]⟩
abbrev S14336x4096 : Shape := ⟨2, ![14336, 4096]⟩
abbrev S256x13x64 : Shape := ⟨3, ![256, 13, 64]⟩
abbrev S256x1x64 : Shape := ⟨3, ![256, 1, 64]⟩
abbrev S256x64 : Shape := ⟨2, ![256, 64]⟩
abbrev S256x13x1 : Shape := ⟨3, ![256, 13, 1]⟩

abbrev nBuf : Space → Nat
  | .hbm => 171
  | .vmem => 0
  | .smem => 0
  | _ => 0

abbrev hbmTy0_0 (i : Nat) : BufTy := match i % 128 with
  | 0 => ⟨S256x1x4096, .bf16⟩
  | 1 => ⟨S256, .i32⟩
  | 2 => ⟨S512x28672, .i32⟩
  | 3 => ⟨S32x28672, .bf16⟩
  | 4 => ⟨S1792x4096, .i32⟩
  | 5 => ⟨S112x4096, .bf16⟩
  | 6 => ⟨S13x4096x128, .bf16⟩
  | 7 => ⟨S13x2x64x14336, .bf16⟩
  | 8 => ⟨S13x14336x64, .bf16⟩
  | 9 => ⟨S13x64x4096, .bf16⟩
  | 10 => ⟨S13, .f32⟩
  | 11 => ⟨S256x4096, .bf16⟩
  | 12 => ⟨S256x1, .i32⟩
  | 13 => ⟨S1x13, .i32⟩
  | 14 => ⟨S256x13, .i32⟩
  | 15 => ⟨S256x13, .i32⟩
  | 16 => ⟨S256x13, .i1⟩
  | 17 => ⟨S256x13, .f32⟩
  | 18 => ⟨S256x13, .bf16⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256, .f32⟩
  | 28 => ⟨S256x1x1, .i32⟩
  | 29 => ⟨S8, .i32⟩
  | 30 => ⟨S_, .i32⟩
  | 31 => ⟨S8, .i32⟩
  | 32 => ⟨S8, .i32⟩
  | 33 => ⟨S512x1x28672, .i32⟩
  | 34 => ⟨S1x8x1, .i32⟩
  | 35 => ⟨S512x8x28672, .i32⟩
  | 36 => ⟨S512x8x28672, .i32⟩
  | 37 => ⟨S512x8x28672, .i32⟩
  | 38 => ⟨S_, .i32⟩
  | 39 => ⟨S512x8x28672, .i32⟩
  | 40 => ⟨S512x8x28672, .i32⟩
  | 41 => ⟨S_, .i32⟩
  | 42 => ⟨S512x8x28672, .i32⟩
  | 43 => ⟨S512x8x28672, .i1⟩
  | 44 => ⟨S_, .i32⟩
  | 45 => ⟨S512x8x28672, .i32⟩
  | 46 => ⟨S512x8x28672, .i32⟩
  | 47 => ⟨S512x8x28672, .i32⟩
  | 48 => ⟨S512x8x28672, .bf16⟩
  | 49 => ⟨S32x128x28672, .bf16⟩
  | 50 => ⟨S32x1x28672, .bf16⟩
  | 51 => ⟨S32x128x28672, .bf16⟩
  | 52 => ⟨S32x128x28672, .bf16⟩
  | 53 => ⟨S4096x28672, .bf16⟩
  | 54 => ⟨S256x28672, .f32⟩
  | 55 => ⟨S256x13x128, .f32⟩
  | 56 => ⟨S_, .i32⟩
  | 57 => ⟨S256x1x1, .i32⟩
  | 58 => ⟨S256x1x1, .i1⟩
  | 59 => ⟨S_, .i32⟩
  | 60 => ⟨S256x1x1, .i32⟩
  | 61 => ⟨S256x1x1, .i32⟩
  | 62 => ⟨S256x1x1, .i32⟩
  | 63 => ⟨S1, .i32⟩
  | 64 => ⟨S_, .i32⟩
  | 65 => ⟨S256x1x1, .i32⟩
  | 66 => ⟨S256x1x1, .i1⟩
  | 67 => ⟨S1x1x1, .i32⟩
  | 68 => ⟨S256x1x1, .i32⟩
  | 69 => ⟨S256x1x1, .i1⟩
  | 70 => ⟨S256x1x1, .i1⟩
  | 71 => ⟨S_, .i1⟩
  | 72 => ⟨S256x1, .i1⟩
  | 73 => ⟨S256x1x128, .f32⟩
  | 74 => ⟨S256x1x128, .i1⟩
  | 75 => ⟨S_, .f32⟩
  | 76 => ⟨S256x1x128, .f32⟩
  | 77 => ⟨S256x1x128, .f32⟩
  | 78 => ⟨S256x128, .f32⟩
  | 79 => ⟨S256x1, .f32⟩
  | 80 => ⟨S256x128, .f32⟩
  | 81 => ⟨S256x128, .f32⟩
  | 82 => ⟨S256x128, .bf16⟩
  | 83 => ⟨S256x13x1x1, .bf16⟩
  | 84 => ⟨S256x1x2x64, .bf16⟩
  | 85 => ⟨S256x13x2x64, .bf16⟩
  | 86 => ⟨S256x13x2x64, .bf16⟩
  | 87 => ⟨S256x13x2x64, .bf16⟩
  | 88 => ⟨S2x14336x256, .f32⟩
  | 89 => ⟨S256x2x14336, .f32⟩
  | 90 => ⟨S256x2x14336, .f32⟩
  | 91 => ⟨S256x2x14336, .f32⟩
  | 92 => ⟨S256x1x14336, .f32⟩
  | 93 => ⟨S256x14336, .f32⟩
  | 94 => ⟨S256x1x14336, .f32⟩
  | 95 => ⟨S256x14336, .f32⟩
  | 96 => ⟨S256x14336, .f32⟩
  | 97 => ⟨S256x14336, .f32⟩
  | 98 => ⟨S_, .f32⟩
  | 99 => ⟨S256x14336, .f32⟩
  | 100 => ⟨S256x14336, .f32⟩
  | 101 => ⟨S_, .f32⟩
  | 102 => ⟨S256x14336, .f32⟩
  | 103 => ⟨S256x14336, .f32⟩
  | 104 => ⟨S256x14336, .f32⟩
  | 105 => ⟨S256x14336, .f32⟩
  | 106 => ⟨S256x14336, .bf16⟩
  | 107 => ⟨S8, .i32⟩
  | 108 => ⟨S_, .i32⟩
  | 109 => ⟨S8, .i32⟩
  | 110 => ⟨S8, .i32⟩
  | 111 => ⟨S1792x1x4096, .i32⟩
  | 112 => ⟨S1x8x1, .i32⟩
  | 113 => ⟨S1792x8x4096, .i32⟩
  | 114 => ⟨S1792x8x4096, .i32⟩
  | 115 => ⟨S1792x8x4096, .i32⟩
  | 116 => ⟨S_, .i32⟩
  | 117 => ⟨S1792x8x4096, .i32⟩
  | 118 => ⟨S1792x8x4096, .i32⟩
  | 119 => ⟨S_, .i32⟩
  | 120 => ⟨S1792x8x4096, .i32⟩
  | 121 => ⟨S1792x8x4096, .i1⟩
  | 122 => ⟨S_, .i32⟩
  | 123 => ⟨S1792x8x4096, .i32⟩
  | 124 => ⟨S1792x8x4096, .i32⟩
  | 125 => ⟨S1792x8x4096, .i32⟩
  | 126 => ⟨S1792x8x4096, .bf16⟩
  | 127 => ⟨S112x128x4096, .bf16⟩
  | _ => ⟨S256x1x4096, .bf16⟩

abbrev hbmTy0_1 (i : Nat) : BufTy := match i % 128 with
  | 0 => ⟨S112x1x4096, .bf16⟩
  | 1 => ⟨S112x128x4096, .bf16⟩
  | 2 => ⟨S112x128x4096, .bf16⟩
  | 3 => ⟨S14336x4096, .bf16⟩
  | 4 => ⟨S256x4096, .f32⟩
  | 5 => ⟨S256x13x64, .f32⟩
  | 6 => ⟨S_, .i32⟩
  | 7 => ⟨S256x1x1, .i32⟩
  | 8 => ⟨S256x1x1, .i1⟩
  | 9 => ⟨S_, .i32⟩
  | 10 => ⟨S256x1x1, .i32⟩
  | 11 => ⟨S256x1x1, .i32⟩
  | 12 => ⟨S256x1x1, .i32⟩
  | 13 => ⟨S1, .i32⟩
  | 14 => ⟨S_, .i32⟩
  | 15 => ⟨S256x1x1, .i32⟩
  | 16 => ⟨S256x1x1, .i1⟩
  | 17 => ⟨S1x1x1, .i32⟩
  | 18 => ⟨S256x1x1, .i32⟩
  | 19 => ⟨S256x1x1, .i1⟩
  | 20 => ⟨S256x1x1, .i1⟩
  | 21 => ⟨S_, .i1⟩
  | 22 => ⟨S256x1, .i1⟩
  | 23 => ⟨S256x1x64, .f32⟩
  | 24 => ⟨S256x1x64, .i1⟩
  | 25 => ⟨S_, .f32⟩
  | 26 => ⟨S256x1x64, .f32⟩
  | 27 => ⟨S256x1x64, .f32⟩
  | 28 => ⟨S256x64, .f32⟩
  | 29 => ⟨S256x1, .f32⟩
  | 30 => ⟨S256x64, .f32⟩
  | 31 => ⟨S256x64, .f32⟩
  | 32 => ⟨S256x64, .bf16⟩
  | 33 => ⟨S256x13x1, .bf16⟩
  | 34 => ⟨S256x1x64, .bf16⟩
  | 35 => ⟨S256x13x64, .bf16⟩
  | 36 => ⟨S256x13x64, .bf16⟩
  | 37 => ⟨S256x13x64, .bf16⟩
  | 38 => ⟨S256x4096, .f32⟩
  | 39 => ⟨S256x4096, .f32⟩
  | 40 => ⟨S256x4096, .bf16⟩
  | 41 => ⟨S256x1x4096, .bf16⟩
  | 42 => ⟨S256x1x14336, .bf16⟩
  | _ => ⟨S256x1x4096, .bf16⟩

abbrev hbmTy (i : Nat) : BufTy := match i / 128 with
  | 0 => hbmTy0_0 i
  | 1 => hbmTy0_1 i
  | _ => ⟨S256x1x4096, .bf16⟩

abbrev bufTy : (tb : Table) → Fin (tcTables nBuf tb) → BufTy
  | .hbm, ⟨i, _⟩ => hbmTy i
  | _, _ => ⟨S256x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_c_2 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_c_3 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst : Ref sig .tc := ⟨.hbm, 98, rfl⟩
abbrev main_v55 : Ref sig .tc := ⟨.hbm, 99, rfl⟩
abbrev main_v56 : Ref sig .tc := ⟨.hbm, 100, rfl⟩
abbrev main_cst_5 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_6 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_7 : Ref sig .tc := ⟨.hbm, 116, rfl⟩
abbrev main_v70 : Ref sig .tc := ⟨.hbm, 117, rfl⟩
abbrev main_v71 : Ref sig .tc := ⟨.hbm, 118, rfl⟩
abbrev main_c_8 : Ref sig .tc := ⟨.hbm, 119, rfl⟩
abbrev main_v72 : Ref sig .tc := ⟨.hbm, 120, rfl⟩
abbrev main_v73 : Ref sig .tc := ⟨.hbm, 121, rfl⟩
abbrev main_c_9 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_call4_c : Ref sig .tc := ⟨.hbm, 134, rfl⟩
abbrev main_call4_v0 : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_c_1 : Ref sig .tc := ⟨.hbm, 141, rfl⟩
abbrev main_call4_c_2 : Ref sig .tc := ⟨.hbm, 142, rfl⟩
abbrev main_call4_v5 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_v9 : Ref sig .tc := ⟨.hbm, 147, rfl⟩
abbrev main_call4_v10 : Ref sig .tc := ⟨.hbm, 148, rfl⟩
abbrev main_call4_c_3 : Ref sig .tc := ⟨.hbm, 149, rfl⟩
abbrev main_call4_v11 : Ref sig .tc := ⟨.hbm, 150, rfl⟩
abbrev main_call4_v12 : Ref sig .tc := ⟨.hbm, 151, rfl⟩
abbrev main_call4_v13 : Ref sig .tc := ⟨.hbm, 152, rfl⟩
abbrev main_call4_cst : Ref sig .tc := ⟨.hbm, 153, rfl⟩
abbrev main_call4_v14 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩

abbrev nD : Nat := 1
abbrev τ : Topo := Topo.v7x

variable {F : FTy → Type} [FloatOps F]
-- ==== Proof.Kernel.Region0.lean ====
/- The first kernel region (the LoRA shrink) from any contents it is entered at: its body at each grid point, what the carried accumulator and the output hold after each point, and the obligation the pipeline asks of the body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, e0]
    word_cmp
   : ∀ t : Fin grid0.N, cond0_0 (grid0.coords t) ↔ t.val % 13 = 0)

abbrev cond0_1 (i : grid0.Coords) : Prop := k0_cond2 i = 1#1
theorem hcond0_1 : ∀ t : Fin cfg0.N, cond0_1 (grid0.coords t) ↔ t.val % 13 = 12 :=
  (fun t => by
    have ht : t.val < 13 := Nat.lt_of_lt_of_eq t.isLt N_0
    have e0 : (grid0.coords t 0).val = t.val / 1 % 13 := Pipeline.Grid.coords_val t 0 (by decide) rfl
    simp only [cond0_1, k0_cond2, e0]
    word_cmp
   : ∀ t : Fin grid0.N, cond0_1 (grid0.coords t) ↔ t.val % 13 = 12)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

abbrev VO0_4 : View sig .tc .vmem S256x128 .bf16 := (Memref.whole cc0_stg4_0 : Memref sig .tc .vmem S256x128 .bf16).view
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .bf16 := win0_4.stage (cfg0.slots t 4)
abbrev hs0_4 (t : Fin cfg0.N) : (ms0_4 t).IsWhole := hstage0_4 ((cfg0.slots t 4).cast nbuf0_4)
abbrev scM0_0 : Memref sig .tc .vmem S256x128 .f32 := Memref.whole cc0_scratch0
abbrev VS0_0 : View sig .tc .vmem S256x128 .f32 := scM0_0.view

/-- Every scoped buffer that is neither staging of region 0 nor its scratch, each whole at some contents. -/
abbrev Rest0 (c : Dev nD) : sProp 𝕄 :=
  Pipeline.scopedRestBut (Ix := Unit) (Name := ℕ) (U := UR sig nD τ) (Lvl := ℕ) (Val := Elt F) spec0 c [cc0_scratch0]
theorem rest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ Rest0 c) :=
  Pipeline.scopedRest_split_of_list spec0 c [cc0_scratch0] (by decide) (by decide)
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [rest0_split]; simp only [scM0_0, owns_whole]; try rfl
section Body
variable (c : Dev nD) (i : grid0.Coords)
  (arg1 : Memref sig .tc .vmem S256x4096 .bf16) (harg1 : arg1.IsWhole)
  (arg2 : Memref sig .tc .vmem S256x1 .i32) (harg2 : arg2.IsWhole)
  (arg3 : Memref sig .tc .vmem S256x1 .f32) (harg3 : arg3.IsWhole)
  (arg4 : Memref sig .tc .vmem S1x4096x128 .bf16) (harg4 : arg4.IsWhole)
  (arg5 : Memref sig .tc .vmem S256x128 .bf16) (harg5 : arg5.IsWhole)
  (arg6 : Memref sig .tc .vmem S256x128 .f32) (harg6 : arg6.IsWhole)

set_option maxHeartbeats 1000000 in
noncomputable def kernelRun0_A (hc0 : cond0_0 i) (hc1 : ¬cond0_1 i)
    (x0 : Vec F S256x4096 .bf16) (x1 : Vec F S256x1 .i32) (x2 : Vec F S256x1 .f32) (x3 : Vec F S1x4096x128 .bf16) :
    Σ' (L4 : List (View.Piece (Elt F) S256x128 .bf16)), { LS0 : List (View.Piece (Elt F) S256x128 .f32) //
      ∀ (xi4 : Vec F S256x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_shrink i arg1 harg1 arg2 harg2 arg3 harg3 arg4 harg4 arg5 harg5 arg6 harg6) K } := by
  refine ⟨[], ?_, fun xi4 E K => ?run⟩
  case run =>
    simp only [cc0_shrink_eq_skeleton]; unfold cc0_shrink_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

def out0_A_4 (hc0 : cond0_0 i) (hc1 : ¬cond0_1 i)
    (x0 : Vec F S256x4096 .bf16) (x1 : Vec F S256x1 .i32) (x2 : Vec F S256x1 .f32) (x3 : Vec F S1x4096x128 .bf16) : Vec F S256x128 .bf16 :=
  VO0_4.read (Elt F) (VO0_4.writes (Elt F) VO0_4.junk (kernelRun0_A c i arg1 harg1 arg2 harg2 arg3 harg3 arg4 harg4 arg5 harg5 arg6 harg6 hc0 hc1 x0 x1 x2 x3).1)

theorem scover0_A_0 (hc0 : cond0_0 i) (hc1 : ¬cond0_1 i)
    (x0 : Vec F S256x4096 .bf16) (x1 : Vec F S256x1 .i32) (x2 : Vec F S256x1 .f32) (x3 : Vec F S1x4096x128 .bf16) (y : S256x128.Idx) :
    ∃ pc ∈ (kernelRun0_A c i arg1 harg1 arg2 harg2 arg3 harg3 arg4 harg4 arg5 harg5 arg6 harg6 hc0 hc1 x0 x1 x2 x3).2.1, y ∈ pc.1.set :=
  View.cover_of_tiledL (kernelRun0_A c i arg1 harg1 arg2 harg2 arg3 harg3 arg4 harg4 arg5 harg5 arg6 harg6 hc0 hc1 x0 x1 x2 x3).2.1 S256x128.size (by sl_kernel_rfl) y

def sout0_A_0 (hc0 : cond0_0 i) (hc1 : ¬cond0_1 i)
    (x0 : Vec F S256x4096 .bf16) (x1 : Vec F S256x1 .i32) (x2 : Vec F S256x1 .f32) (x3 : Vec F S1x4096x128 .bf16) : Vec F S256x128 .f32 :=
  VS0_0.read (Elt F) (VS0_0.writes (Elt F) VS0_0.junk (kernelRun0_A c i arg1 harg1 arg2 harg2 arg3 harg3 arg4 harg4 arg5 harg5 arg6 harg6 hc0 hc1 x0 x1 x2 x3).2.1)
set_option maxHeartbeats 1000000 in
noncomputable def kernelRun0_B (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) :
    Σ' (L4 : List (View.Piece (Elt F) S256x128 .bf16)), { LS0 : List (View.Piece (Elt F) S256x128 .f32) //
      ∀ (xi4 : Vec F S256x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_shrink i arg1 harg1 arg2 harg2 arg3 harg3 arg4 harg4 arg5 harg5 arg6 harg6) K } := by
  refine ⟨[], ?_, fun xi4 E K => ?run⟩
  case run =>
    simp only [cc0_shrink_eq_skeleton]; unfold cc0_shrink_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

def out0_B_4 (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) : Vec F S256x128 .bf16 :=
  VO0_4.read (Elt F) (VO0_4.writes (Elt F) VO0_4.junk (kernelRun0_B c i arg1 harg1 arg2 harg2 arg3 harg3 arg4 harg4 arg5 harg5 arg6 harg6 hc0 hc1 x0 x1 x2 x3 xs0).1)

theorem scover0_B_0 (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) (y : S256x128.Idx) :
    ∃ pc ∈ (kernelRun0_B c i arg1 harg1 arg2 harg2 arg3 harg3 arg4 harg4 arg5 harg5 arg6 harg6 hc0 hc1 x0 x1 x2 x3 xs0).2.1, y ∈ pc.1.set :=
  View.cover_of_tiledL (kernelRun0_B c i arg1 harg1 arg2 harg2 arg3 harg3 arg4 harg4 arg5 harg5 arg6 harg6 hc0 hc1 x0 x1 x2 x3 xs0).2.1 S256x128.size (by sl_kernel_rfl) y

def sout0_B_0 (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) : Vec F S256x128 .f32 :=
  VS0_0.read (Elt F) (VS0_0.writes (Elt F) VS0_0.junk (kernelRun0_B c i arg1 harg1 arg2 harg2 arg3 harg3 arg4 harg4 arg5 harg5 arg6 harg6 hc0 hc1 x0 x1 x2 x3 xs0).2.1)
set_option maxHeartbeats 1000000 in
noncomputable def kernelRun0_C (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) :
    Σ' (L4 : List (View.Piece (Elt F) S256x128 .bf16)), { LS0 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_shrink i arg1 harg1 arg2 harg2 arg3 harg3 arg4 harg4 arg5 harg5 arg6 harg6) K } := by
  refine ⟨?_, ?_, fun E K => ?run⟩
  case run =>
    simp only [cc0_shrink_eq_skeleton]; unfold cc0_shrink_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

theorem cover0_C_4 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) (y : S256x128.Idx) :
    ∃ pc ∈ (kernelRun0_C c i arg1 harg1 arg2 harg2 arg3 harg3 arg4 harg4 arg5 harg5 arg6 harg6 hc0 hc1 x0 x1 x2 x3 xs0).1, y ∈ pc.1.set :=
  View.cover_of_tiledL (kernelRun0_C c i arg1 harg1 arg2 harg2 arg3 harg3 arg4 harg4 arg5 harg5 arg6 harg6 hc0 hc1 x0 x1 x2 x3 xs0).1 S256x128.size (by sl_kernel_rfl) y

def out0_C_4 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) : Vec F S256x128 .bf16 :=
  VO0_4.read (Elt F) (VO0_4.writes (Elt F) VO0_4.junk (kernelRun0_C c i arg1 harg1 arg2 harg2 arg3 harg3 arg4 harg4 arg5 harg5 arg6 harg6 hc0 hc1 x0 x1 x2 x3 xs0).1)

theorem scover0_C_0 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) (y : S256x128.Idx) :
    ∃ pc ∈ (kernelRun0_C c i arg1 harg1 arg2 harg2 arg3 harg3 arg4 harg4 arg5 harg5 arg6 harg6 hc0 hc1 x0 x1 x2 x3 xs0).2.1, y ∈ pc.1.set :=
  View.cover_of_tiledL (kernelRun0_C c i arg1 harg1 arg2 harg2 arg3 harg3 arg4 harg4 arg5 harg5 arg6 harg6 hc0 hc1 x0 x1 x2 x3 xs0).2.1 S256x128.size (by sl_kernel_rfl) y

def sout0_C_0 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) : Vec F S256x128 .f32 :=
  VS0_0.read (Elt F) (VS0_0.writes (Elt F) VS0_0.junk (kernelRun0_C c i arg1 harg1 arg2 harg2 arg3 harg3 arg4 harg4 arg5 harg5 arg6 harg6 hc0 hc1 x0 x1 x2 x3 xs0).2.1)

end Body

def outsAt0 (c : Dev nD) : (n : ℕ) → n < cfg0.N → Vec F S256x128 .bf16 × Vec F S256x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 13 = 0 then
      if h1 : (n + 1) % 13 = 12 then
        False.elim (by have hN : n + 1 < 13 := lt_of_lt_of_eq hn (show cfg0.N = 13 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 13 = 12 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 13 = 0) (h1 : ¬t.val % 13 = 12) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 13 = 0) (h1 : ¬t.val % 13 = 12) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 13 = 0) (h1 : t.val % 13 = 12) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 13 := lt_of_lt_of_eq t.isLt (show cfg0.N = 13 from N_0)
  by_cases h0 : t.val % 13 = 0
  · by_cases h1 : t.val % 13 = 12
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      by_cases hz : t.val = 0
      · rw [PhiS0_castSucc V c t, PhiS0_zero V c _ _ hz, PhiA0_eq]
        rw [outsAt0_A V c t h0 h1]
        unfold sout0_A_0; (try dsimp only)
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · exfalso; have hN : t.val < 13 := lt_of_lt_of_eq t.isLt (show cfg0.N = 13 from N_0); omega
  · by_cases h1 : t.val % 13 = 12
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_C t (fun h => h0 ((hcond0_0 t).mp h)) ((hcond0_1 t).mpr h1)], after0_4]
      by_cases hz : t.val = 0
      · exfalso; have hN : t.val < 13 := lt_of_lt_of_eq t.isLt (show cfg0.N = 13 from N_0); omega
      · rw [PhiS0_castSucc V c t, PhiS0_pos V c _ _ hz]
        rw [outsAt0_C V c t h0 h1]
        unfold out0_C_4 sout0_C_0; (try dsimp only)
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      by_cases hz : t.val = 0
      · exfalso; have hN : t.val < 13 := lt_of_lt_of_eq t.isLt (show cfg0.N = 13 from N_0); omega
      · rw [PhiS0_castSucc V c t, PhiS0_pos V c _ _ hz]
        rw [outsAt0_B V c t h0 h1]
        unfold sout0_B_0; (try dsimp only)
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 13 := N_0; omega)

end Regions

end Cert.Kernel.Gen

end
-- ==== Proof.Kernel.Region1.lean ====
/- The second kernel region (gate, up and the partial products of t) from any contents it is entered at: its body at each grid point, what the carried accumulator and the outputs hold after each point, and the obligation the pipeline asks of the body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 28 = 0 :=
  (fun t => by
    have ht : t.val < 28 := Nat.lt_of_lt_of_eq t.isLt N_1
    have e0 : (grid1.coords t 0).val = t.val / 1 % 28 := Pipeline.Grid.coords_val t 0 (by decide) rfl
    simp only [cond1_0, e0]
    word_cmp
   : ∀ t : Fin grid1.N, cond1_0 (grid1.coords t) ↔ t.val % 28 = 0)

abbrev cond1_1 (i : grid1.Coords) : Prop := k1_cond2 i = 1#1
theorem hcond1_1 : ∀ t : Fin cfg1.N, cond1_1 (grid1.coords t) ↔ t.val % 28 = 27 :=
  (fun t => by
    have ht : t.val < 28 := Nat.lt_of_lt_of_eq t.isLt N_1
    have e0 : (grid1.coords t 0).val = t.val / 1 % 28 := Pipeline.Grid.coords_val t 0 (by decide) rfl
    simp only [cond1_1, k1_cond2, e0]
    word_cmp
   : ∀ t : Fin grid1.N, cond1_1 (grid1.coords t) ↔ t.val % 28 = 27)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem idleAt1_11_A : ∀ t : Fin cfg1.N, cond1_0 (grid1.coords t) → ¬cond1_1 (grid1.coords t) → cfg1.idle 11 (grid1.coords t) = true := by decide +kernel
theorem noFlush1_11_A : ∀ t : Fin cfg1.N, cond1_0 (grid1.coords t) → ¬cond1_1 (grid1.coords t) → (cfg1.win 11).flush t = false := by decide +kernel
theorem idleAt1_11_B : ∀ t : Fin cfg1.N, ¬cond1_0 (grid1.coords t) → ¬cond1_1 (grid1.coords t) → cfg1.idle 11 (grid1.coords t) = true := by decide +kernel
theorem noFlush1_11_B : ∀ t : Fin cfg1.N, ¬cond1_0 (grid1.coords t) → ¬cond1_1 (grid1.coords t) → (cfg1.win 11).flush t = false := by decide +kernel
theorem liveAt1_11_C : ∀ t : Fin cfg1.N, ¬cond1_0 (grid1.coords t) → cond1_1 (grid1.coords t) → cfg1.idle 11 (grid1.coords t) = false := by decide +kernel

abbrev VO1_10 : View sig .tc .vmem S256x512 .bf16 := (Memref.whole cc1_stg10_0 : Memref sig .tc .vmem S256x512 .bf16).view
abbrev VO1_11 : View sig .tc .vmem S256x64 .bf16 := (Memref.whole cc1_stg11_0 : Memref sig .tc .vmem S256x64 .bf16).view
abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S13x2x64x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S13x64x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x64 .bf16 := win1_11.stage (cfg1.slots t 11)
abbrev hs1_11 (t : Fin cfg1.N) : (ms1_11 t).IsWhole := hstage1_11 ((cfg1.slots t 11).cast nbuf1_11)
abbrev scM1_0 : Memref sig .tc .vmem S256x64 .f32 := Memref.whole cc1_scratch0
abbrev VS1_0 : View sig .tc .vmem S256x64 .f32 := scM1_0.view

/-- Every scoped buffer that is neither staging of region 1 nor its scratch, each whole at some contents. -/
abbrev Rest1 (c : Dev nD) : sProp 𝕄 :=
  Pipeline.scopedRestBut (Ix := Unit) (Name := ℕ) (U := UR sig nD τ) (Lvl := ℕ) (Val := Elt F) spec1 c [cc1_scratch0]
theorem rest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 c) :=
  Pipeline.scopedRest_split_of_list spec1 c [cc1_scratch0] (by decide) (by decide)
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [rest1_split]; simp only [scM1_0, owns_whole]; try rfl
section Body
variable (c : Dev nD) (i : grid1.Coords)
  (arg1 : Memref sig .tc .vmem S256x4096 .bf16) (harg1 : arg1.IsWhole)
  (arg2 : Memref sig .tc .vmem S256x1 .i32) (harg2 : arg2.IsWhole)
  (arg3 : Memref sig .tc .vmem S256x1 .f32) (harg3 : arg3.IsWhole)
  (arg4 : Memref sig .tc .vmem S256x128 .bf16) (harg4 : arg4.IsWhole)
  (arg5 : Memref sig .tc .vmem S512x512 .i32) (harg5 : arg5.IsWhole)
  (arg6 : Memref sig .tc .vmem S512x512 .i32) (harg6 : arg6.IsWhole)
  (arg7 : Memref sig .tc .vmem S32x512 .bf16) (harg7 : arg7.IsWhole)
  (arg8 : Memref sig .tc .vmem S32x512 .bf16) (harg8 : arg8.IsWhole)
  (arg9 : Memref sig .tc .vmem S13x2x64x512 .bf16) (harg9 : arg9.IsWhole)
  (arg10 : Memref sig .tc .vmem S13x64x512 .bf16) (harg10 : arg10.IsWhole)
  (arg11 : Memref sig .tc .vmem S256x512 .bf16) (harg11 : arg11.IsWhole)
  (arg12 : Memref sig .tc .vmem S256x64 .bf16) (harg12 : arg12.IsWhole)
  (arg13 : Memref sig .tc .vmem S256x64 .f32) (harg13 : arg13.IsWhole)

set_option maxHeartbeats 1000000 in
noncomputable def kernelRun1_A (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) :
    Σ' (L10 : List (View.Piece (Elt F) S256x512 .bf16)), Σ' (L11 : List (View.Piece (Elt F) S256x64 .bf16)), { LS0 : List (View.Piece (Elt F) S256x64 .f32) //
      ∀ (xi11 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, fun xi11 E K => ?run⟩
  case run =>
    simp only [cc1_gate_up_eq_skeleton]; unfold cc1_gate_up_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    iexists _; iexact HS0

theorem cover1_A_10 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1 S256x512.size (by sl_kernel_rfl) y

def out1_A_10 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) : Vec F S256x512 .bf16 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

def out1_A_11 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) : Vec F S256x64 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

theorem scover1_A_0 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (y : S256x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1 S256x64.size (by sl_kernel_rfl) y

def sout1_A_0 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) : Vec F S256x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1)
set_option maxHeartbeats 1000000 in
noncomputable def kernelRun1_B (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) :
    Σ' (L10 : List (View.Piece (Elt F) S256x512 .bf16)), Σ' (L11 : List (View.Piece (Elt F) S256x64 .bf16)), { LS0 : List (View.Piece (Elt F) S256x64 .f32) //
      ∀ (xi11 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, fun xi11 E K => ?run⟩
  case run =>
    simp only [cc1_gate_up_eq_skeleton]; unfold cc1_gate_up_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    iexists _; iexact HS0

theorem cover1_B_10 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S256x512.size (by sl_kernel_rfl) y

def out1_B_10 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x512 .bf16 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

def out1_B_11 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

theorem scover1_B_0 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1 S256x64.size (by sl_kernel_rfl) y

def sout1_B_0 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1)
set_option maxHeartbeats 1000000 in
noncomputable def kernelRun1_C (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) :
    Σ' (L10 : List (View.Piece (Elt F) S256x512 .bf16)), Σ' (L11 : List (View.Piece (Elt F) S256x64 .bf16)), { LS0 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_gate_up_eq_skeleton]; unfold cc1_gate_up_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; iexact HS0

theorem cover1_C_10 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x512.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S256x512.size (by sl_kernel_rfl) y

def out1_C_10 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x512 .bf16 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

theorem cover1_C_11 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x64.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S256x64.size (by sl_kernel_rfl) y

def out1_C_11 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .bf16 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

theorem scover1_C_0 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x64.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1 S256x64.size (by sl_kernel_rfl) y

def sout1_C_0 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1)

end Body

def outsAt1 (c : Dev nD) : (n : ℕ) → n < cfg1.N → Vec F S256x512 .bf16 × Vec F S256x64 .bf16 × Vec F S256x64 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 28 = 0 then
      if h1 : (n + 1) % 28 = 27 then
        False.elim (by have hN : n + 1 < 28 := lt_of_lt_of_eq hn (show cfg1.N = 28 from N_1); omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 28 = 27 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2)

theorem outsAt1_A (c : Dev nD) (t : Fin cfg1.N) (h0 : t.val % 28 = 0) (h1 : ¬t.val % 28 = 27) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 28 = 0) (h1 : ¬t.val % 28 = 27) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 28 = 0) (h1 : t.val % 28 = 27) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 14400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 28 := lt_of_lt_of_eq t.isLt (show cfg1.N = 28 from N_1)
  by_cases h0 : t.val % 28 = 0
  · by_cases h1 : t.val % 28 = 27
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [Dat.leavesExact_idle (dat1 V c) 11 t (idleAt1_11_A t ((hcond1_0 t).mpr h0) (fun h => h1 ((hcond1_1 t).mp h))) (noFlush1_11_A t ((hcond1_0 t).mpr h0) (fun h => h1 ((hcond1_1 t).mp h)))]
      by_cases hz : t.val = 0
      · rw [PhiS1_castSucc V c t, PhiS1_zero V c _ _ hz, PhiA1_eq]
        rw [outsAt1_A V c t h0 h1]
        unfold out1_A_10 sout1_A_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        iintro ⟨H0, H1, H2, H3, H4, H5, H6, H7, H8, H9, ⟨%e10, H10⟩, H11, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover1_A_10 c _ _ _ _ _ _ _ _ _ _ _ _ _ _ _ _ _ _ _ _ _ _ _ _ _ _ _ _ _ _ _ _ _ _ _ _ _ _ _)
        iexists _; iexact H11
      · exfalso; have hN : t.val < 28 := lt_of_lt_of_eq t.isLt (show cfg1.N = 28 from N_1); omega
  · by_cases h1 : t.val % 28 = 27
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11_C t (fun h => h0 ((hcond1_0 t).mp h)) ((hcond1_1 t).mpr h1)], after1_11]
      by_cases hz : t.val = 0
      · exfalso; have hN : t.val < 28 := lt_of_lt_of_eq t.isLt (show cfg1.N = 28 from N_1); omega
      · rw [PhiS1_castSucc V c t, PhiS1_pos V c _ _ hz]
        rw [outsAt1_C V c t h0 h1]
        unfold out1_C_10 out1_C_11 sout1_C_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_C c (grid1.coords t) _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        iintro ⟨H0, H1, H2, H3, H4, H5, H6, H7, H8, H9, ⟨%e10, H10⟩, ⟨%e11, H11⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover1_C_10 c _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover1_C_11 c _ _ _ _ _ _ _ _ _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [Dat.leavesExact_idle (dat1 V c) 11 t (idleAt1_11_B t (fun h => h0 ((hcond1_0 t).mp h)) (fun h => h1 ((hcond1_1 t).mp h))) (noFlush1_11_B t (fun h => h0 ((hcond1_0 t).mp h)) (fun h => h1 ((hcond1_1 t).mp h)))]
      by_cases hz : t.val = 0
      · exfalso; have hN : t.val < 28 := lt_of_lt_of_eq t.isLt (show cfg1.N = 28 from N_1); omega
      · rw [PhiS1_castSucc V c t, PhiS1_pos V c _ _ hz]
        rw [outsAt1_B V c t h0 h1]
        unfold out1_B_10 sout1_B_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        iintro ⟨H0, H1, H2, H3, H4, H5, H6, H7, H8, H9, ⟨%e10, H10⟩, H11, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover1_B_10 c _ _ _ _ _ _ _ _ _ _ _ _ _ _ _ _ _ _ _ _ _ _ _ _ _ _ _ _ _ _ _ _ _ _ _ _ _ _ _ _)
        iexists _; iexact H11

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 28 := N_1; omega)

end Regions

end Cert.Kernel.Gen

end
-- ==== Proof.Kernel.Region2.lean ====
/- The third kernel region (the down projection) from any contents it is entered at: what the output holds after each point, and the obligation the pipeline asks of the body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x14336 := Rect.unit (s := S256x14336) ![0, 0] S256x14336.size inb_S256x14336_S256x14336_0_0
abbrev r2_1 : Rect S1792x256 := Rect.unit (s := S1792x256) ![0, 0] S1792x256.size inb_S1792x256_S1792x256_0_0
abbrev r2_2 : Rect S112x256 := Rect.unit (s := S112x256) ![0, 0] S112x256.size inb_S112x256_S112x256_0_0
abbrev r2_3 : Rect S256x1 := Rect.unit (s := S256x1) ![0, 0] S256x1.size inb_S256x1_S256x1_0_0
abbrev r2_4 : Rect S256x64 := Rect.unit (s := S256x64) ![0, 0] S256x64.size inb_S256x64_S256x64_0_0
abbrev r2_5 : Rect S13x64x256 := Rect.unit (s := S13x64x256) ![0, 0, 0] S1x64x256.size inb_S13x64x256_S1x64x256_0_0_0
abbrev r2_6 : Rect S13x64x256 := Rect.unit (s := S13x64x256) ![1, 0, 0] S1x64x256.size inb_S13x64x256_S1x64x256_1_0_0
abbrev r2_7 : Rect S13x64x256 := Rect.unit (s := S13x64x256) ![2, 0, 0] S1x64x256.size inb_S13x64x256_S1x64x256_2_0_0
abbrev r2_8 : Rect S13x64x256 := Rect.unit (s := S13x64x256) ![3, 0, 0] S1x64x256.size inb_S13x64x256_S1x64x256_3_0_0
abbrev r2_9 : Rect S13x64x256 := Rect.unit (s := S13x64x256) ![4, 0, 0] S1x64x256.size inb_S13x64x256_S1x64x256_4_0_0
abbrev r2_10 : Rect S13x64x256 := Rect.unit (s := S13x64x256) ![5, 0, 0] S1x64x256.size inb_S13x64x256_S1x64x256_5_0_0
abbrev r2_11 : Rect S13x64x256 := Rect.unit (s := S13x64x256) ![6, 0, 0] S1x64x256.size inb_S13x64x256_S1x64x256_6_0_0
abbrev r2_12 : Rect S13x64x256 := Rect.unit (s := S13x64x256) ![7, 0, 0] S1x64x256.size inb_S13x64x256_S1x64x256_7_0_0
abbrev r2_13 : Rect S13x64x256 := Rect.unit (s := S13x64x256) ![8, 0, 0] S1x64x256.size inb_S13x64x256_S1x64x256_8_0_0
abbrev r2_14 : Rect S13x64x256 := Rect.unit (s := S13x64x256) ![9, 0, 0] S1x64x256.size inb_S13x64x256_S1x64x256_9_0_0
abbrev r2_15 : Rect S13x64x256 := Rect.unit (s := S13x64x256) ![10, 0, 0] S1x64x256.size inb_S13x64x256_S1x64x256_10_0_0
abbrev r2_16 : Rect S13x64x256 := Rect.unit (s := S13x64x256) ![11, 0, 0] S1x64x256.size inb_S13x64x256_S1x64x256_11_0_0
abbrev r2_17 : Rect S13x64x256 := Rect.unit (s := S13x64x256) ![12, 0, 0] S1x64x256.size inb_S13x64x256_S1x64x256_12_0_0
abbrev r2_18 : Rect S256x256 := Rect.unit (s := S256x256) ![0, 0] S256x256.size inb_S256x256_S256x256_0_0

def k2_pay13 (x0 : Vec F S256x14336 .bf16) (x1 : Vec F S256x1 .i32) (x2 : Vec F S256x64 .bf16) (x3 : Vec F S1792x256 .i32) (x4 : Vec F S112x256 .bf16) (x5 : Vec F S13x64x256 .bf16) : IVec S256x1 32 :=
  k2_pay2 (View.ld x1 r2_3) -- `v24`
def k2_pay14 (x0 : Vec F S256x14336 .bf16) (x1 : Vec F S256x1 .i32) (x2 : Vec F S256x64 .bf16) (x3 : Vec F S1792x256 .i32) (x4 : Vec F S112x256 .bf16) (x5 : Vec F S13x64x256 .bf16) : FVec F S256x64 .bf16 :=
  k2_pay3 (View.ld x2 r2_4) -- `v26`

def out2_6 (x0 : Vec F S256x14336 .bf16) (x1 : Vec F S256x1 .i32) (x2 : Vec F S256x64 .bf16) (x3 : Vec F S1792x256 .i32) (x4 : Vec F S112x256 .bf16) (x5 : Vec F S13x64x256 .bf16) : Vec F S256x256 .bf16 :=
  View.canon [⟨r2_18, k2_pay1 (k2_pay14 x0 x1 x2 x3 x4 x5) (k2_pay11 (k2_pay13 x0 x1 x2 x3 x4 x5) (k2_pay14 x0 x1 x2 x3 x4 x5) (k2_pay9 (k2_pay13 x0 x1 x2 x3 x4 x5) (k2_pay14 x0 x1 x2 x3 x4 x5) (k2_pay6 (k2_pay13 x0 x1 x2 x3 x4 x5) (k2_pay14 x0 x1 x2 x3 x4 x5) (k2_pay4 (View.ld x0 r2_0) (View.ld x3 r2_1) (View.ld x4 r2_2) (View.ld x1 r2_3) (View.ld x2 r2_4) (View.ld x5 r2_5)) k2_pay5 (View.ld x5 r2_6) (View.ld x5 r2_7) (View.ld x5 r2_8)) (k2_pay7 (k2_pay13 x0 x1 x2 x3 x4 x5) (k2_pay14 x0 x1 x2 x3 x4 x5)) (k2_pay8 (View.ld x5 r2_9)) (constant S256x256 .f32 0x00000000#32) (View.ld x5 r2_10) (View.ld x5 r2_11) (View.ld x5 r2_12)) (k2_pay10 (k2_pay13 x0 x1 x2 x3 x4 x5) (k2_pay14 x0 x1 x2 x3 x4 x5)) (View.ld x5 r2_13) (View.ld x5 r2_14) (View.ld x5 r2_15) (View.ld x5 r2_16)) (Scalar.ofBits .bf16 0x0000#16) (k2_pay12 (k2_pay13 x0 x1 x2 x3 x4 x5)) (View.ld x5 r2_17)⟩]

theorem cover2_6 (p0 : Vec F S256x256 .bf16) (y : S256x256.Idx) :
    ∃ pc ∈ ([⟨r2_18, p0⟩] : List (View.Piece (Elt F) S256x256 .bf16)), y ∈ pc.1.set :=
  View.cover_of_tiled [⟨r2_18, p0⟩] S256x256.size (by rfl) y

set_option maxHeartbeats 1000000 in
theorem sound_kernel2 (c : Dev nD) (E : Set ℕ) (i : grid2.Coords) (arg1 : Memref sig .tc .vmem S256x14336 .bf16) (harg1 : arg1.IsWhole) (arg2 : Memref sig .tc .vmem S256x1 .i32) (harg2 : arg2.IsWhole) (arg3 : Memref sig .tc .vmem S256x64 .bf16) (harg3 : arg3.IsWhole) (arg4 : Memref sig .tc .vmem S1792x256 .i32) (harg4 : arg4.IsWhole) (arg5 : Memref sig .tc .vmem S112x256 .bf16) (harg5 : arg5.IsWhole) (arg6 : Memref sig .tc .vmem S13x64x256 .bf16) (harg6 : arg6.IsWhole) (arg7 : Memref sig .tc .vmem S256x256 .bf16) (harg7 : arg7.IsWhole)
    (x0 : Vec F S256x14336 .bf16) (x1 : Vec F S256x1 .i32) (x2 : Vec F S256x64 .bf16) (x3 : Vec F S1792x256 .i32) (x4 : Vec F S112x256 .bf16) (x5 : Vec F S13x64x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2_down i arg1 harg1 arg2 harg2 arg3 harg3 arg4 harg4 arg5 harg5 arg6 harg6 arg7 harg7) K := by
  simp only [cc2_down_eq_skeleton]; unfold cc2_down_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_6 _)).trans ?_
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.Kernel.Hosts0.lean ====
/- What each stretch of host operations writes, and that it leaves every argument alone. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
abbrev hostOps0_W : List (Ref sig .tc) := [main_v0, main_v1, main_c, main_v2, main_v3, main_c_0, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v11]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v14, main_v15]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

end Cert.Kernel.Gen

end
-- ==== Proof.Kernel.Fold0.lean ====
/- The contents of the buffers at each boundary between host operations and regions, from the launch to the return. -/
module

public import proofs.«01_k».proof.Proof.Kernel.Region0
public import proofs.«01_k».proof.Proof.Kernel.Region1
public import proofs.«01_k».proof.Proof.Kernel.Region2
public import proofs.«01_k».proof.Proof.Kernel.Hosts0

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps3 (W5 m ρ c)
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
end Cert.Kernel.Gen

end
-- ==== Proof.Kernel.State.lean ====
/- The proof data of the three pipelines and what a core holds between two segments. -/
module

public import proofs.«01_k».proof.Proof.Kernel.Fold0

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

end Cert.Kernel.Gen

end
-- ==== Proof.Kernel.Record0.lean ====
/- The first region as a segment between two boundaries. -/
module

public import proofs.«01_k».proof.Proof.Kernel.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (Phi_out0 (V1 m ρ) c (Fin.last _) (by decide)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Record1.lean ====
/- The second region as a segment between two boundaries. -/
module

public import proofs.«01_k».proof.Proof.Kernel.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (Phi_out1 (V3 m ρ) c (Fin.last _) (by decide)) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Record2.lean ====
/- The third region as a segment between two boundaries. -/
module

public import proofs.«01_k».proof.Proof.Kernel.State

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Kernel.Frame.lean ====
/- The whole program as its segments, and what every run of it ends with: each unscoped buffer at the last boundary's contents and every counter at zero. -/
module

public import proofs.«01_k».proof.Proof.Kernel.Record0
public import proofs.«01_k».proof.Proof.Kernel.Record1
public import proofs.«01_k».proof.Proof.Kernel.Record2

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends with each unscoped buffer at the contents of the last boundary and every semaphore counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun s hs => ⟨fun c =>
      ⟨(hs.1 c _ (mem_uc main_arg0 (by decide))).trans (W6_main_arg0 m ρ c),
       (hs.1 c _ (mem_uc main_arg1 (by decide))).trans (W6_main_arg1 m ρ c),
       (hs.1 c _ (mem_uc main_arg2 (by decide))).trans (W6_main_arg2 m ρ c),
       (hs.1 c _ (mem_uc main_arg3 (by decide))).trans (W6_main_arg3 m ρ c),
       (hs.1 c _ (mem_uc main_arg4 (by decide))).trans (W6_main_arg4 m ρ c),
       (hs.1 c _ (mem_uc main_arg5 (by decide))).trans (W6_main_arg5 m ρ c),
       (hs.1 c _ (mem_uc main_arg6 (by decide))).trans (W6_main_arg6 m ρ c),
       (hs.1 c _ (mem_uc main_arg7 (by decide))).trans (W6_main_arg7 m ρ c),
       (hs.1 c _ (mem_uc main_arg8 (by decide))).trans (W6_main_arg8 m ρ c),
       (hs.1 c _ (mem_uc main_arg9 (by decide))).trans (W6_main_arg9 m ρ c),
       (hs.1 c _ (mem_uc main_arg10 (by decide))).trans (W6_main_arg10 m ρ c)⟩, hs.2⟩) (run_all m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h => h.1) (frame m ρ)

end Cert.Kernel.Gen

end
-- ==== Proof.KernelIdeal.Region0.lean ====
/- The first kernel region (the LoRA shrink) from any contents it is entered at: its body at each grid point, what the carried accumulator and the output hold after each point, and the obligation the pipeline asks of the body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 13 = 0 :=
  (fun t => by
    have ht : t.val < 13 := Nat.lt_of_lt_of_eq t.isLt N_0
    have e0 : (grid0.coords t 0).val = t.val / 1 % 13 := Pipeline.Grid.coords_val t 0 (by decide) rfl
    simp only [cond0_0, e0]
    word_cmp
   : ∀ t : Fin grid0.N, cond0_0 (grid0.coords t) ↔ t.val % 13 = 0)

abbrev cond0_1 (i : grid0.Coords) : Prop := k0_cond2 i = 1#1
theorem hcond0_1 : ∀ t : Fin cfg0.N, cond0_1 (grid0.coords t) ↔ t.val % 13 = 12 :=
  (fun t => by
    have ht : t.val < 13 := Nat.lt_of_lt_of_eq t.isLt N_0
    have e0 : (grid0.coords t 0).val = t.val / 1 % 13 := Pipeline.Grid.coords_val t 0 (by decide) rfl
    simp only [cond0_1, k0_cond2, e0]
    word_cmp
   : ∀ t : Fin grid0.N, cond0_1 (grid0.coords t) ↔ t.val % 13 = 12)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

abbrev VO0_4 : View sig .tc .vmem S256x128 .bf16 := (Memref.whole cc0_stg4_0 : Memref sig .tc .vmem S256x128 .bf16).view
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .bf16 := win0_4.stage (cfg0.slots t 4)
abbrev hs0_4 (t : Fin cfg0.N) : (ms0_4 t).IsWhole := hstage0_4 ((cfg0.slots t 4).cast nbuf0_4)
abbrev scM0_0 : Memref sig .tc .vmem S256x128 .f32 := Memref.whole cc0_scratch0
abbrev VS0_0 : View sig .tc .vmem S256x128 .f32 := scM0_0.view

/-- Every scoped buffer that is neither staging of region 0 nor its scratch, each whole at some contents. -/
abbrev Rest0 (c : Dev nD) : sProp 𝕄 :=
  Pipeline.scopedRestBut (Ix := Unit) (Name := ℕ) (U := UR sig nD τ) (Lvl := ℕ) (Val := Elt F) spec0 c [cc0_scratch0]
theorem rest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ Rest0 c) :=
  Pipeline.scopedRest_split_of_list spec0 c [cc0_scratch0] (by decide) (by decide)
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [rest0_split]; simp only [scM0_0, owns_whole]; try rfl
section Body
variable (c : Dev nD) (i : grid0.Coords)
  (arg1 : Memref sig .tc .vmem S256x4096 .bf16) (harg1 : arg1.IsWhole)
  (arg2 : Memref sig .tc .vmem S256x1 .i32) (harg2 : arg2.IsWhole)
  (arg3 : Memref sig .tc .vmem S256x1 .f32) (harg3 : arg3.IsWhole)
  (arg4 : Memref sig .tc .vmem S1x4096x128 .bf16) (harg4 : arg4.IsWhole)
  (arg5 : Memref sig .tc .vmem S256x128 .bf16) (harg5 : arg5.IsWhole)
  (arg6 : Memref sig .tc .vmem S256x128 .f32) (harg6 : arg6.IsWhole)

set_option maxHeartbeats 1000000 in
noncomputable def kernelRun0_A (hc0 : cond0_0 i) (hc1 : ¬cond0_1 i)
    (x0 : Vec F S256x4096 .bf16) (x1 : Vec F S256x1 .i32) (x2 : Vec F S256x1 .f32) (x3 : Vec F S1x4096x128 .bf16) :
    Σ' (L4 : List (View.Piece (Elt F) S256x128 .bf16)), { LS0 : List (View.Piece (Elt F) S256x128 .f32) //
      ∀ (xi4 : Vec F S256x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_shrink i arg1 harg1 arg2 harg2 arg3 harg3 arg4 harg4 arg5 harg5 arg6 harg6) K } := by
  refine ⟨[], ?_, fun xi4 E K => ?run⟩
  case run =>
    simp only [cc0_shrink_eq_skeleton]; unfold cc0_shrink_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

def out0_A_4 (hc0 : cond0_0 i) (hc1 : ¬cond0_1 i)
    (x0 : Vec F S256x4096 .bf16) (x1 : Vec F S256x1 .i32) (x2 : Vec F S256x1 .f32) (x3 : Vec F S1x4096x128 .bf16) : Vec F S256x128 .bf16 :=
  VO0_4.read (Elt F) (VO0_4.writes (Elt F) VO0_4.junk (kernelRun0_A c i arg1 harg1 arg2 harg2 arg3 harg3 arg4 harg4 arg5 harg5 arg6 harg6 hc0 hc1 x0 x1 x2 x3).1)

theorem scover0_A_0 (hc0 : cond0_0 i) (hc1 : ¬cond0_1 i)
    (x0 : Vec F S256x4096 .bf16) (x1 : Vec F S256x1 .i32) (x2 : Vec F S256x1 .f32) (x3 : Vec F S1x4096x128 .bf16) (y : S256x128.Idx) :
    ∃ pc ∈ (kernelRun0_A c i arg1 harg1 arg2 harg2 arg3 harg3 arg4 harg4 arg5 harg5 arg6 harg6 hc0 hc1 x0 x1 x2 x3).2.1, y ∈ pc.1.set :=
  View.cover_of_tiledL (kernelRun0_A c i arg1 harg1 arg2 harg2 arg3 harg3 arg4 harg4 arg5 harg5 arg6 harg6 hc0 hc1 x0 x1 x2 x3).2.1 S256x128.size (by sl_kernel_rfl) y

def sout0_A_0 (hc0 : cond0_0 i) (hc1 : ¬cond0_1 i)
    (x0 : Vec F S256x4096 .bf16) (x1 : Vec F S256x1 .i32) (x2 : Vec F S256x1 .f32) (x3 : Vec F S1x4096x128 .bf16) : Vec F S256x128 .f32 :=
  VS0_0.read (Elt F) (VS0_0.writes (Elt F) VS0_0.junk (kernelRun0_A c i arg1 harg1 arg2 harg2 arg3 harg3 arg4 harg4 arg5 harg5 arg6 harg6 hc0 hc1 x0 x1 x2 x3).2.1)
set_option maxHeartbeats 1000000 in
noncomputable def kernelRun0_B (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) :
    Σ' (L4 : List (View.Piece (Elt F) S256x128 .bf16)), { LS0 : List (View.Piece (Elt F) S256x128 .f32) //
      ∀ (xi4 : Vec F S256x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_shrink i arg1 harg1 arg2 harg2 arg3 harg3 arg4 harg4 arg5 harg5 arg6 harg6) K } := by
  refine ⟨[], ?_, fun xi4 E K => ?run⟩
  case run =>
    simp only [cc0_shrink_eq_skeleton]; unfold cc0_shrink_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

def out0_B_4 (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) : Vec F S256x128 .bf16 :=
  VO0_4.read (Elt F) (VO0_4.writes (Elt F) VO0_4.junk (kernelRun0_B c i arg1 harg1 arg2 harg2 arg3 harg3 arg4 harg4 arg5 harg5 arg6 harg6 hc0 hc1 x0 x1 x2 x3 xs0).1)

theorem scover0_B_0 (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) (y : S256x128.Idx) :
    ∃ pc ∈ (kernelRun0_B c i arg1 harg1 arg2 harg2 arg3 harg3 arg4 harg4 arg5 harg5 arg6 harg6 hc0 hc1 x0 x1 x2 x3 xs0).2.1, y ∈ pc.1.set :=
  View.cover_of_tiledL (kernelRun0_B c i arg1 harg1 arg2 harg2 arg3 harg3 arg4 harg4 arg5 harg5 arg6 harg6 hc0 hc1 x0 x1 x2 x3 xs0).2.1 S256x128.size (by sl_kernel_rfl) y

def sout0_B_0 (hc0 : ¬cond0_0 i) (hc1 : ¬cond0_1 i)
    (x0 : Vec F S256x4096 .bf16) (x1 : Vec F S256x1 .i32) (x2 : Vec F S256x1 .f32) (x3 : Vec F S1x4096x128 .bf16) (xs0 : Vec F S256x128 .f32) : Vec F S256x128 .f32 :=
  VS0_0.read (Elt F) (VS0_0.writes (Elt F) VS0_0.junk (kernelRun0_B c i arg1 harg1 arg2 harg2 arg3 harg3 arg4 harg4 arg5 harg5 arg6 harg6 hc0 hc1 x0 x1 x2 x3 xs0).2.1)
set_option maxHeartbeats 1000000 in
noncomputable def kernelRun0_C (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) :
    Σ' (L4 : List (View.Piece (Elt F) S256x128 .bf16)), { LS0 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_shrink i arg1 harg1 arg2 harg2 arg3 harg3 arg4 harg4 arg5 harg5 arg6 harg6) K } := by
  refine ⟨?_, ?_, fun E K => ?run⟩
  case run =>
    simp only [cc0_shrink_eq_skeleton]; unfold cc0_shrink_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

theorem cover0_C_4 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) (y : S256x128.Idx) :
    ∃ pc ∈ (kernelRun0_C c i arg1 harg1 arg2 harg2 arg3 harg3 arg4 harg4 arg5 harg5 arg6 harg6 hc0 hc1 x0 x1 x2 x3 xs0).1, y ∈ pc.1.set :=
  View.cover_of_tiledL (kernelRun0_C c i arg1 harg1 arg2 harg2 arg3 harg3 arg4 harg4 arg5 harg5 arg6 harg6 hc0 hc1 x0 x1 x2 x3 xs0).1 S256x128.size (by sl_kernel_rfl) y

def out0_C_4 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) : Vec F S256x128 .bf16 :=
  VO0_4.read (Elt F) (VO0_4.writes (Elt F) VO0_4.junk (kernelRun0_C c i arg1 harg1 arg2 harg2 arg3 harg3 arg4 harg4 arg5 harg5 arg6 harg6 hc0 hc1 x0 x1 x2 x3 xs0).1)

theorem scover0_C_0 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) (y : S256x128.Idx) :
    ∃ pc ∈ (kernelRun0_C c i arg1 harg1 arg2 harg2 arg3 harg3 arg4 harg4 arg5 harg5 arg6 harg6 hc0 hc1 x0 x1 x2 x3 xs0).2.1, y ∈ pc.1.set :=
  View.cover_of_tiledL (kernelRun0_C c i arg1 harg1 arg2 harg2 arg3 harg3 arg4 harg4 arg5 harg5 arg6 harg6 hc0 hc1 x0 x1 x2 x3 xs0).2.1 S256x128.size (by sl_kernel_rfl) y

def sout0_C_0 (hc0 : ¬cond0_0 i) (hc1 : cond0_1 i)
    (x0 : Vec F S256x4096 .bf16) (x1 : Vec F S256x1 .i32) (x2 : Vec F S256x1 .f32) (x3 : Vec F S1x4096x128 .bf16) (xs0 : Vec F S256x128 .f32) : Vec F S256x128 .f32 :=
  VS0_0.read (Elt F) (VS0_0.writes (Elt F) VS0_0.junk (kernelRun0_C c i arg1 harg1 arg2 harg2 arg3 harg3 arg4 harg4 arg5 harg5 arg6 harg6 hc0 hc1 x0 x1 x2 x3 xs0).2.1)

end Body

def outsAt0 (c : Dev nD) : (n : ℕ) → n < cfg0.N → Vec F S256x128 .bf16 × Vec F S256x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 13 = 0 then
      if h1 : (n + 1) % 13 = 12 then
        False.elim (by have hN : n + 1 < 13 := lt_of_lt_of_eq hn (show cfg0.N = 13 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 13 = 12 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 13 = 0) (h1 : ¬t.val % 13 = 12) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 13 = 0) (h1 : ¬t.val % 13 = 12) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 13 = 0) (h1 : t.val % 13 = 12) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 13 := lt_of_lt_of_eq t.isLt (show cfg0.N = 13 from N_0)
  by_cases h0 : t.val % 13 = 0
  · by_cases h1 : t.val % 13 = 12
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      by_cases hz : t.val = 0
      · rw [PhiS0_castSucc V c t, PhiS0_zero V c _ _ hz, PhiA0_eq]
        rw [outsAt0_A V c t h0 h1]
        unfold sout0_A_0; (try dsimp only)
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · exfalso; have hN : t.val < 13 := lt_of_lt_of_eq t.isLt (show cfg0.N = 13 from N_0); omega
  · by_cases h1 : t.val % 13 = 12
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4_C t (fun h => h0 ((hcond0_0 t).mp h)) ((hcond0_1 t).mpr h1)], after0_4]
      by_cases hz : t.val = 0
      · exfalso; have hN : t.val < 13 := lt_of_lt_of_eq t.isLt (show cfg0.N = 13 from N_0); omega
      · rw [PhiS0_castSucc V c t, PhiS0_pos V c _ _ hz]
        rw [outsAt0_C V c t h0 h1]
        unfold out0_C_4 sout0_C_0; (try dsimp only)
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      by_cases hz : t.val = 0
      · exfalso; have hN : t.val < 13 := lt_of_lt_of_eq t.isLt (show cfg0.N = 13 from N_0); omega
      · rw [PhiS0_castSucc V c t, PhiS0_pos V c _ _ hz]
        rw [outsAt0_B V c t h0 h1]
        unfold sout0_B_0; (try dsimp only)
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 13 := N_0; omega)

end Regions

end Cert.KernelIdeal.Gen

end
-- ==== Proof.KernelIdeal.Region1.lean ====
/- The second kernel region (gate, up and the partial products of t) from any contents it is entered at: its body at each grid point, what the carried accumulator and the outputs hold after each point, and the obligation the pipeline asks of the body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 28 = 0 :=
  (fun t => by
    have ht : t.val < 28 := Nat.lt_of_lt_of_eq t.isLt N_1
    have e0 : (grid1.coords t 0).val = t.val / 1 % 28 := Pipeline.Grid.coords_val t 0 (by decide) rfl
    simp only [cond1_0, e0]
    word_cmp
   : ∀ t : Fin grid1.N, cond1_0 (grid1.coords t) ↔ t.val % 28 = 0)

abbrev cond1_1 (i : grid1.Coords) : Prop := k1_cond2 i = 1#1
theorem hcond1_1 : ∀ t : Fin cfg1.N, cond1_1 (grid1.coords t) ↔ t.val % 28 = 27 :=
  (fun t => by
    have ht : t.val < 28 := Nat.lt_of_lt_of_eq t.isLt N_1
    have e0 : (grid1.coords t 0).val = t.val / 1 % 28 := Pipeline.Grid.coords_val t 0 (by decide) rfl
    simp only [cond1_1, k1_cond2, e0]
    word_cmp
   : ∀ t : Fin grid1.N, cond1_1 (grid1.coords t) ↔ t.val % 28 = 27)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
theorem liveAt1_8 : ∀ t : Fin cfg1.N, cfg1.idle 8 (grid1.coords t) = false := fun _ => rfl
theorem liveAt1_9 : ∀ t : Fin cfg1.N, cfg1.idle 9 (grid1.coords t) = false := fun _ => rfl
theorem liveAt1_10 : ∀ t : Fin cfg1.N, cfg1.idle 10 (grid1.coords t) = false := fun _ => rfl
theorem idleAt1_11_A : ∀ t : Fin cfg1.N, cond1_0 (grid1.coords t) → ¬cond1_1 (grid1.coords t) → cfg1.idle 11 (grid1.coords t) = true := by decide +kernel
theorem noFlush1_11_A : ∀ t : Fin cfg1.N, cond1_0 (grid1.coords t) → ¬cond1_1 (grid1.coords t) → (cfg1.win 11).flush t = false := by decide +kernel
theorem idleAt1_11_B : ∀ t : Fin cfg1.N, ¬cond1_0 (grid1.coords t) → ¬cond1_1 (grid1.coords t) → cfg1.idle 11 (grid1.coords t) = true := by decide +kernel
theorem noFlush1_11_B : ∀ t : Fin cfg1.N, ¬cond1_0 (grid1.coords t) → ¬cond1_1 (grid1.coords t) → (cfg1.win 11).flush t = false := by decide +kernel
theorem liveAt1_11_C : ∀ t : Fin cfg1.N, ¬cond1_0 (grid1.coords t) → cond1_1 (grid1.coords t) → cfg1.idle 11 (grid1.coords t) = false := by decide +kernel

abbrev VO1_10 : View sig .tc .vmem S256x512 .bf16 := (Memref.whole cc1_stg10_0 : Memref sig .tc .vmem S256x512 .bf16).view
abbrev VO1_11 : View sig .tc .vmem S256x64 .bf16 := (Memref.whole cc1_stg11_0 : Memref sig .tc .vmem S256x64 .bf16).view
abbrev ms1_0 (t : Fin cfg1.N) : Memref sig .tc .vmem S256x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S32x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S13x2x64x512 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S13x64x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x64 .bf16 := win1_11.stage (cfg1.slots t 11)
abbrev hs1_11 (t : Fin cfg1.N) : (ms1_11 t).IsWhole := hstage1_11 ((cfg1.slots t 11).cast nbuf1_11)
abbrev scM1_0 : Memref sig .tc .vmem S256x64 .f32 := Memref.whole cc1_scratch0
abbrev VS1_0 : View sig .tc .vmem S256x64 .f32 := scM1_0.view

/-- Every scoped buffer that is neither staging of region 1 nor its scratch, each whole at some contents. -/
abbrev Rest1 (c : Dev nD) : sProp 𝕄 :=
  Pipeline.scopedRestBut (Ix := Unit) (Name := ℕ) (U := UR sig nD τ) (Lvl := ℕ) (Val := Elt F) spec1 c [cc1_scratch0]
theorem rest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Rest1 c) :=
  Pipeline.scopedRest_split_of_list spec1 c [cc1_scratch0] (by decide) (by decide)
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [rest1_split]; simp only [scM1_0, owns_whole]; try rfl
section Body
variable (c : Dev nD) (i : grid1.Coords)
  (arg1 : Memref sig .tc .vmem S256x4096 .bf16) (harg1 : arg1.IsWhole)
  (arg2 : Memref sig .tc .vmem S256x1 .i32) (harg2 : arg2.IsWhole)
  (arg3 : Memref sig .tc .vmem S256x1 .f32) (harg3 : arg3.IsWhole)
  (arg4 : Memref sig .tc .vmem S256x128 .bf16) (harg4 : arg4.IsWhole)
  (arg5 : Memref sig .tc .vmem S512x512 .i32) (harg5 : arg5.IsWhole)
  (arg6 : Memref sig .tc .vmem S512x512 .i32) (harg6 : arg6.IsWhole)
  (arg7 : Memref sig .tc .vmem S32x512 .bf16) (harg7 : arg7.IsWhole)
  (arg8 : Memref sig .tc .vmem S32x512 .bf16) (harg8 : arg8.IsWhole)
  (arg9 : Memref sig .tc .vmem S13x2x64x512 .bf16) (harg9 : arg9.IsWhole)
  (arg10 : Memref sig .tc .vmem S13x64x512 .bf16) (harg10 : arg10.IsWhole)
  (arg11 : Memref sig .tc .vmem S256x512 .bf16) (harg11 : arg11.IsWhole)
  (arg12 : Memref sig .tc .vmem S256x64 .bf16) (harg12 : arg12.IsWhole)
  (arg13 : Memref sig .tc .vmem S256x64 .f32) (harg13 : arg13.IsWhole)

set_option maxHeartbeats 1000000 in
noncomputable def kernelRun1_A (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) :
    Σ' (L10 : List (View.Piece (Elt F) S256x512 .bf16)), Σ' (L11 : List (View.Piece (Elt F) S256x64 .bf16)), { LS0 : List (View.Piece (Elt F) S256x64 .f32) //
      ∀ (xi11 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, fun xi11 E K => ?run⟩
  case run =>
    simp only [cc1_gate_up_eq_skeleton]; unfold cc1_gate_up_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    iexists _; iexact HS0

theorem cover1_A_10 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (y : S256x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1 S256x512.size (by sl_kernel_rfl) y

def out1_A_10 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) : Vec F S256x512 .bf16 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

def out1_A_11 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) : Vec F S256x64 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

theorem scover1_A_0 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (y : S256x64.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1 S256x64.size (by sl_kernel_rfl) y

def sout1_A_0 (hc0 : cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) : Vec F S256x64 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.2.1)
set_option maxHeartbeats 1000000 in
noncomputable def kernelRun1_B (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) :
    Σ' (L10 : List (View.Piece (Elt F) S256x512 .bf16)), Σ' (L11 : List (View.Piece (Elt F) S256x64 .bf16)), { LS0 : List (View.Piece (Elt F) S256x64 .f32) //
      ∀ (xi11 : Vec F S256x64 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ (∃ f, arg13.view.loc (c : Thread nD τ) ↦[arg13.view.set]{fullShare} arg13.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, [], ?_, fun xi11 E K => ?run⟩
  case run =>
    simp only [cc1_gate_up_eq_skeleton]; unfold cc1_gate_up_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    iexists _; iexact HS0

theorem cover1_B_10 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x512.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S256x512.size (by sl_kernel_rfl) y

def out1_B_10 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x512 .bf16 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

def out1_B_11 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

theorem scover1_B_0 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x64.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1 S256x64.size (by sl_kernel_rfl) y

def sout1_B_0 (hc0 : ¬cond1_0 i) (hc1 : ¬cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1)
set_option maxHeartbeats 1000000 in
noncomputable def kernelRun1_C (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) :
    Σ' (L10 : List (View.Piece (Elt F) S256x512 .bf16)), Σ' (L11 : List (View.Piece (Elt F) S256x64 .bf16)), { LS0 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc1_gate_up i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_gate_up_eq_skeleton]; unfold cc1_gate_up_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    iexists _; iexact HS0

theorem cover1_C_10 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x512.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S256x512.size (by sl_kernel_rfl) y

def out1_C_10 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x512 .bf16 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

theorem cover1_C_11 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x64.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S256x64.size (by sl_kernel_rfl) y

def out1_C_11 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .bf16 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

theorem scover1_C_0 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) (y : S256x64.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1 S256x64.size (by sl_kernel_rfl) y

def sout1_C_0 (hc0 : ¬cond1_0 i) (hc1 : cond1_1 i)
    (x0 : Vec F S256x4096 .bf16) (x1 : Vec F S256x1 .i32) (x2 : Vec F S256x1 .f32) (x3 : Vec F S256x128 .bf16) (x4 : Vec F S512x512 .i32) (x5 : Vec F S512x512 .i32) (x6 : Vec F S32x512 .bf16) (x7 : Vec F S32x512 .bf16) (x8 : Vec F S13x2x64x512 .bf16) (x9 : Vec F S13x64x512 .bf16) (xs0 : Vec F S256x64 .f32) : Vec F S256x64 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.2.1)

end Body

def outsAt1 (c : Dev nD) : (n : ℕ) → n < cfg1.N → Vec F S256x512 .bf16 × Vec F S256x64 .bf16 × Vec F S256x64 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 28 = 0 then
      if h1 : (n + 1) % 28 = 27 then
        False.elim (by have hN : n + 1 < 28 := lt_of_lt_of_eq hn (show cfg1.N = 28 from N_1); omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 28 = 27 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2.2)

theorem outsAt1_A (c : Dev nD) (t : Fin cfg1.N) (h0 : t.val % 28 = 0) (h1 : ¬t.val % 28 = 27) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 28 = 0) (h1 : ¬t.val % 28 = 27) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 28 = 0) (h1 : t.val % 28 = 27) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 14400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 28 := lt_of_lt_of_eq t.isLt (show cfg1.N = 28 from N_1)
  by_cases h0 : t.val % 28 = 0
  · by_cases h1 : t.val % 28 = 27
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [Dat.leavesExact_idle (dat1 V c) 11 t (idleAt1_11_A t ((hcond1_0 t).mpr h0) (fun h => h1 ((hcond1_1 t).mp h))) (noFlush1_11_A t ((hcond1_0 t).mpr h0) (fun h => h1 ((hcond1_1 t).mp h)))]
      by_cases hz : t.val = 0
      · rw [PhiS1_castSucc V c t, PhiS1_zero V c _ _ hz, PhiA1_eq]
        rw [outsAt1_A V c t h0 h1]
        unfold out1_A_10 sout1_A_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_A c (grid1.coords t) _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        iintro ⟨H0, H1, H2, H3, H4, H5, H6, H7, H8, H9, ⟨%e10, H10⟩, H11, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover1_A_10 c _ _ _ _ _ _ _ _ _ _ _ _ _ _ _ _ _ _ _ _ _ _ _ _ _ _ _ _ _ _ _ _ _ _ _ _ _ _ _)
        iexists _; iexact H11
      · exfalso; have hN : t.val < 28 := lt_of_lt_of_eq t.isLt (show cfg1.N = 28 from N_1); omega
  · by_cases h1 : t.val % 28 = 27
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [show (dat1 V c).leavesExact 11 t = owns (c : Thread nD τ) (ms1_11 t) fullShare ((dat1 V c).after 11 t) from by
      unfold Dat.leavesExact; rw [liveAt1_11_C t (fun h => h0 ((hcond1_0 t).mp h)) ((hcond1_1 t).mpr h1)], after1_11]
      by_cases hz : t.val = 0
      · exfalso; have hN : t.val < 28 := lt_of_lt_of_eq t.isLt (show cfg1.N = 28 from N_1); omega
      · rw [PhiS1_castSucc V c t, PhiS1_pos V c _ _ hz]
        rw [outsAt1_C V c t h0 h1]
        unfold out1_C_10 out1_C_11 sout1_C_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_C c (grid1.coords t) _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        iintro ⟨H0, H1, H2, H3, H4, H5, H6, H7, H8, H9, ⟨%e10, H10⟩, ⟨%e11, H11⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover1_C_10 c _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover1_C_11 c _ _ _ _ _ _ _ _ _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9 t], after1_9]
      rw [show (dat1 V c).leavesExact 10 t = owns (c : Thread nD τ) (ms1_10 t) fullShare ((dat1 V c).after 10 t) from by
      unfold Dat.leavesExact; rw [liveAt1_10 t], after1_10]
      rw [Dat.leavesExact_idle (dat1 V c) 11 t (idleAt1_11_B t (fun h => h0 ((hcond1_0 t).mp h)) (fun h => h1 ((hcond1_1 t).mp h))) (noFlush1_11_B t (fun h => h0 ((hcond1_0 t).mp h)) (fun h => h1 ((hcond1_1 t).mp h)))]
      by_cases hz : t.val = 0
      · exfalso; have hN : t.val < 28 := lt_of_lt_of_eq t.isLt (show cfg1.N = 28 from N_1); omega
      · rw [PhiS1_castSucc V c t, PhiS1_pos V c _ _ hz]
        rw [outsAt1_B V c t h0 h1]
        unfold out1_B_10 sout1_B_0; (try dsimp only)
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun1_B c (grid1.coords t) _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [HS0]; · iexact HS0
        iintro ⟨H0, H1, H2, H3, H4, H5, H6, H7, H8, H9, ⟨%e10, H10⟩, H11, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover1_B_10 c _ _ _ _ _ _ _ _ _ _ _ _ _ _ _ _ _ _ _ _ _ _ _ _ _ _ _ _ _ _ _ _ _ _ _ _ _ _ _ _)
        iexists _; iexact H11

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 28 := N_1; omega)

end Regions

end Cert.KernelIdeal.Gen

end
-- ==== Proof.KernelIdeal.Region2.lean ====
/- The third kernel region (the down projection) from any contents it is entered at: what the output holds after each point, and the obligation the pipeline asks of the body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x14336 := Rect.unit (s := S256x14336) ![0, 0] S256x14336.size inb_S256x14336_S256x14336_0_0
abbrev r2_1 : Rect S1792x256 := Rect.unit (s := S1792x256) ![0, 0] S1792x256.size inb_S1792x256_S1792x256_0_0
abbrev r2_2 : Rect S112x256 := Rect.unit (s := S112x256) ![0, 0] S112x256.size inb_S112x256_S112x256_0_0
abbrev r2_3 : Rect S256x1 := Rect.unit (s := S256x1) ![0, 0] S256x1.size inb_S256x1_S256x1_0_0
abbrev r2_4 : Rect S256x64 := Rect.unit (s := S256x64) ![0, 0] S256x64.size inb_S256x64_S256x64_0_0
abbrev r2_5 : Rect S13x64x256 := Rect.unit (s := S13x64x256) ![0, 0, 0] S1x64x256.size inb_S13x64x256_S1x64x256_0_0_0
abbrev r2_6 : Rect S13x64x256 := Rect.unit (s := S13x64x256) ![1, 0, 0] S1x64x256.size inb_S13x64x256_S1x64x256_1_0_0
abbrev r2_7 : Rect S13x64x256 := Rect.unit (s := S13x64x256) ![2, 0, 0] S1x64x256.size inb_S13x64x256_S1x64x256_2_0_0
abbrev r2_8 : Rect S13x64x256 := Rect.unit (s := S13x64x256) ![3, 0, 0] S1x64x256.size inb_S13x64x256_S1x64x256_3_0_0
abbrev r2_9 : Rect S13x64x256 := Rect.unit (s := S13x64x256) ![4, 0, 0] S1x64x256.size inb_S13x64x256_S1x64x256_4_0_0
abbrev r2_10 : Rect S13x64x256 := Rect.unit (s := S13x64x256) ![5, 0, 0] S1x64x256.size inb_S13x64x256_S1x64x256_5_0_0
abbrev r2_11 : Rect S13x64x256 := Rect.unit (s := S13x64x256) ![6, 0, 0] S1x64x256.size inb_S13x64x256_S1x64x256_6_0_0
abbrev r2_12 : Rect S13x64x256 := Rect.unit (s := S13x64x256) ![7, 0, 0] S1x64x256.size inb_S13x64x256_S1x64x256_7_0_0
abbrev r2_13 : Rect S13x64x256 := Rect.unit (s := S13x64x256) ![8, 0, 0] S1x64x256.size inb_S13x64x256_S1x64x256_8_0_0
abbrev r2_14 : Rect S13x64x256 := Rect.unit (s := S13x64x256) ![9, 0, 0] S1x64x256.size inb_S13x64x256_S1x64x256_9_0_0
abbrev r2_15 : Rect S13x64x256 := Rect.unit (s := S13x64x256) ![10, 0, 0] S1x64x256.size inb_S13x64x256_S1x64x256_10_0_0
abbrev r2_16 : Rect S13x64x256 := Rect.unit (s := S13x64x256) ![11, 0, 0] S1x64x256.size inb_S13x64x256_S1x64x256_11_0_0
abbrev r2_17 : Rect S13x64x256 := Rect.unit (s := S13x64x256) ![12, 0, 0] S1x64x256.size inb_S13x64x256_S1x64x256_12_0_0
abbrev r2_18 : Rect S256x256 := Rect.unit (s := S256x256) ![0, 0] S256x256.size inb_S256x256_S256x256_0_0

def k2_pay13 (x0 : Vec F S256x14336 .bf16) (x1 : Vec F S256x1 .i32) (x2 : Vec F S256x64 .bf16) (x3 : Vec F S1792x256 .i32) (x4 : Vec F S112x256 .bf16) (x5 : Vec F S13x64x256 .bf16) : IVec S256x1 32 :=
  k2_pay2 (View.ld x1 r2_3) -- `v24`
def k2_pay14 (x0 : Vec F S256x14336 .bf16) (x1 : Vec F S256x1 .i32) (x2 : Vec F S256x64 .bf16) (x3 : Vec F S1792x256 .i32) (x4 : Vec F S112x256 .bf16) (x5 : Vec F S13x64x256 .bf16) : FVec F S256x64 .bf16 :=
  k2_pay3 (View.ld x2 r2_4) -- `v26`

def out2_6 (x0 : Vec F S256x14336 .bf16) (x1 : Vec F S256x1 .i32) (x2 : Vec F S256x64 .bf16) (x3 : Vec F S1792x256 .i32) (x4 : Vec F S112x256 .bf16) (x5 : Vec F S13x64x256 .bf16) : Vec F S256x256 .bf16 :=
  View.canon [⟨r2_18, k2_pay1 (k2_pay14 x0 x1 x2 x3 x4 x5) (k2_pay11 (k2_pay13 x0 x1 x2 x3 x4 x5) (k2_pay14 x0 x1 x2 x3 x4 x5) (k2_pay9 (k2_pay13 x0 x1 x2 x3 x4 x5) (k2_pay14 x0 x1 x2 x3 x4 x5) (k2_pay6 (k2_pay13 x0 x1 x2 x3 x4 x5) (k2_pay14 x0 x1 x2 x3 x4 x5) (k2_pay4 (View.ld x0 r2_0) (View.ld x3 r2_1) (View.ld x4 r2_2) (View.ld x1 r2_3) (View.ld x2 r2_4) (View.ld x5 r2_5)) k2_pay5 (View.ld x5 r2_6) (View.ld x5 r2_7) (View.ld x5 r2_8)) (k2_pay7 (k2_pay13 x0 x1 x2 x3 x4 x5) (k2_pay14 x0 x1 x2 x3 x4 x5)) (k2_pay8 (View.ld x5 r2_9)) (constant S256x256 .f32 0x00000000#32) (View.ld x5 r2_10) (View.ld x5 r2_11) (View.ld x5 r2_12)) (k2_pay10 (k2_pay13 x0 x1 x2 x3 x4 x5) (k2_pay14 x0 x1 x2 x3 x4 x5)) (View.ld x5 r2_13) (View.ld x5 r2_14) (View.ld x5 r2_15) (View.ld x5 r2_16)) (Scalar.ofBits .bf16 0x0000#16) (k2_pay12 (k2_pay13 x0 x1 x2 x3 x4 x5)) (View.ld x5 r2_17)⟩]

theorem cover2_6 (p0 : Vec F S256x256 .bf16) (y : S256x256.Idx) :
    ∃ pc ∈ ([⟨r2_18, p0⟩] : List (View.Piece (Elt F) S256x256 .bf16)), y ∈ pc.1.set :=
  View.cover_of_tiled [⟨r2_18, p0⟩] S256x256.size (by rfl) y

set_option maxHeartbeats 1000000 in
theorem sound_kernel2 (c : Dev nD) (E : Set ℕ) (i : grid2.Coords) (arg1 : Memref sig .tc .vmem S256x14336 .bf16) (harg1 : arg1.IsWhole) (arg2 : Memref sig .tc .vmem S256x1 .i32) (harg2 : arg2.IsWhole) (arg3 : Memref sig .tc .vmem S256x64 .bf16) (harg3 : arg3.IsWhole) (arg4 : Memref sig .tc .vmem S1792x256 .i32) (harg4 : arg4.IsWhole) (arg5 : Memref sig .tc .vmem S112x256 .bf16) (harg5 : arg5.IsWhole) (arg6 : Memref sig .tc .vmem S13x64x256 .bf16) (harg6 : arg6.IsWhole) (arg7 : Memref sig .tc .vmem S256x256 .bf16) (harg7 : arg7.IsWhole)
    (x0 : Vec F S256x14336 .bf16) (x1 : Vec F S256x1 .i32) (x2 : Vec F S256x64 .bf16) (x3 : Vec F S1792x256 .i32) (x4 : Vec F S112x256 .bf16) (x5 : Vec F S13x64x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2_down i arg1 harg1 arg2 harg2 arg3 harg3 arg4 harg4 arg5 harg5 arg6 harg6 arg7 harg7) K := by
  simp only [cc2_down_eq_skeleton]; unfold cc2_down_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_6 _)).trans ?_
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdeal.Hosts0.lean ====
/- What each stretch of host operations writes, and that it leaves every argument alone. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
abbrev hostOps0_W : List (Ref sig .tc) := [main_v0, main_v1, main_c, main_v2, main_v3, main_c_0, main_v4, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v11]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v14, main_v15]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

end Cert.KernelIdeal.Gen

end
-- ==== Proof.KernelIdeal.Fold0.lean ====
/- The contents of the buffers at each boundary between host operations and regions, from the launch to the return. -/
module

public import proofs.«01_k».proof.Proof.KernelIdeal.Region0
public import proofs.«01_k».proof.Proof.KernelIdeal.Region1
public import proofs.«01_k».proof.Proof.KernelIdeal.Region2
public import proofs.«01_k».proof.Proof.KernelIdeal.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps3 (W5 m ρ c)
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
end Cert.KernelIdeal.Gen

end
-- ==== Proof.KernelIdeal.State.lean ====
/- The proof data of the three pipelines and what a core holds between two segments. -/
module

public import proofs.«01_k».proof.Proof.KernelIdeal.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

end Cert.KernelIdeal.Gen

end
-- ==== Proof.KernelIdeal.Record0.lean ====
/- The first region as a segment between two boundaries. -/
module

public import proofs.«01_k».proof.Proof.KernelIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (Phi_out0 (V1 m ρ) c (Fin.last _) (by decide)) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record1.lean ====
/- The second region as a segment between two boundaries. -/
module

public import proofs.«01_k».proof.Proof.KernelIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (Phi_out1 (V3 m ρ) c (Fin.last _) (by decide)) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record2.lean ====
/- The third region as a segment between two boundaries. -/
module

public import proofs.«01_k».proof.Proof.KernelIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Frame.lean ====
/- The whole program as its segments, and what every run of it ends with: each unscoped buffer at the last boundary's contents and every counter at zero. -/
module

public import proofs.«01_k».proof.Proof.KernelIdeal.Record0
public import proofs.«01_k».proof.Proof.KernelIdeal.Record1
public import proofs.«01_k».proof.Proof.KernelIdeal.Record2

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends with each unscoped buffer at the contents of the last boundary and every semaphore counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun s hs => ⟨fun c =>
      ⟨(hs.1 c _ (mem_uc main_arg0 (by decide))).trans (W6_main_arg0 m ρ c),
       (hs.1 c _ (mem_uc main_arg1 (by decide))).trans (W6_main_arg1 m ρ c),
       (hs.1 c _ (mem_uc main_arg2 (by decide))).trans (W6_main_arg2 m ρ c),
       (hs.1 c _ (mem_uc main_arg3 (by decide))).trans (W6_main_arg3 m ρ c),
       (hs.1 c _ (mem_uc main_arg4 (by decide))).trans (W6_main_arg4 m ρ c),
       (hs.1 c _ (mem_uc main_arg5 (by decide))).trans (W6_main_arg5 m ρ c),
       (hs.1 c _ (mem_uc main_arg6 (by decide))).trans (W6_main_arg6 m ρ c),
       (hs.1 c _ (mem_uc main_arg7 (by decide))).trans (W6_main_arg7 m ρ c),
       (hs.1 c _ (mem_uc main_arg8 (by decide))).trans (W6_main_arg8 m ρ c),
       (hs.1 c _ (mem_uc main_arg9 (by decide))).trans (W6_main_arg9 m ρ c),
       (hs.1 c _ (mem_uc main_arg10 (by decide))).trans (W6_main_arg10 m ρ c)⟩, hs.2⟩) (run_all m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h => h.1) (frame m ρ)

end Cert.KernelIdeal.Gen

end
-- ==== Proof.RefRun.lean ====
/- The reference's run: what each of its results is, and its arguments unchanged. -/
module

public import proofs.«01_k».proof.Proof.Gen.ReferenceIdeal.Run
public import proofs.«01_k».proof.Proof.Gen.ReferenceIdeal.Read
-- ==== Proof.KernelIdeal.Words.lean ====
/- Small facts about words, masks and one-entry selections that the value proofs share. -/
module

public import proofs.«01_k».proof.KernelIdeal
public import Idealize.ShloMosaic.Lib.Pointwise
public import Idealize.ShloMosaic.Lib.Pipeline.ValueKit

@[expose] public section
noncomputable section
namespace Cert.Val
open Idealize.ShloMosaic Idealize.ShloMosaic.TcCoe Idealize.ShloMosaic.Tactic

/-- A select on an equality of two words is the conditional. -/
theorem select_eq {α : Type} (a b : BitVec 32) (x y : α) :
    Scalar.select (IntOp.cmpi CmpIPredicate.eq a b) x y = if a = b then x else y := by
  by_cases h : a = b
  · simp [IntOp.cmpi, Scalar.select, h]
  · have e : (a == b) = false := by simpa using h
    simp [IntOp.cmpi, Scalar.select, h, e]

/-- The adapter a row names, as an index into the thirteen adapters. -/
def nb (w : BitVec 32) : Fin 13 := ⟨w.toNat % 13, Nat.mod_lt _ (by decide)⟩

theorem eq_ofNat_iff {w : BitVec 32} (h : w.toNat < 13) (n : Fin 13) : w = BitVec.ofNat 32 n.val ↔ nb w = n := by
  constructor
  · rintro rfl
    apply Fin.ext
    have := n.isLt
    simp only [nb, BitVec.toNat_ofNat]
    omega
  · rintro rfl
    apply BitVec.eq_of_toNat_eq
    simp only [nb, BitVec.toNat_ofNat]
    omega

/-- Summed over all adapters, a selection on the adapter's number leaves the one term the row names. -/
theorem sum_select {w : BitVec 32} (h : w.toNat < 13) (g : Fin 13 → EReal) :
    (∑ n : Fin 13, if w = BitVec.ofNat 32 n.val then g n else 0) = g (nb w) := by
  simp only [eq_ofNat_iff h]
  simp

/-- Thirteen selected shares, added in order to a base, are the base and the one share the row names. -/
theorem sum13 {n : ℕ} {w : BitVec 32} (h : w.toNat < 13) (base : EReal) (g : Fin 13 → Fin n → EReal) :
    base + (∑ r, if w = 0#32 then g 0 r else 0) + (∑ r, if w = 1#32 then g 1 r else 0) + (∑ r, if w = 2#32 then g 2 r else 0) + (∑ r, if w = 3#32 then g 3 r else 0) + (∑ r, if w = 4#32 then g 4 r else 0) + (∑ r, if w = 5#32 then g 5 r else 0) + (∑ r, if w = 6#32 then g 6 r else 0) + (∑ r, if w = 7#32 then g 7 r else 0) + (∑ r, if w = 8#32 then g 8 r else 0) + (∑ r, if w = 9#32 then g 9 r else 0) + (∑ r, if w = 10#32 then g 10 r else 0) + (∑ r, if w = 11#32 then g 11 r else 0) + (∑ r, if w = 12#32 then g 12 r else 0)
      = base + ∑ r, g (nb w) r := by
  have e : (∑ n : Fin 13, if w = BitVec.ofNat 32 n.val then (∑ r, g n r) else 0) = ∑ r, g (nb w) r := sum_select h _
  have e2 : ∀ (a : BitVec 32) (q : Fin n → EReal), (∑ r, if w = a then q r else 0) = if w = a then ∑ r, q r else 0 := by
    intro a q
    split_ifs <;> simp
  rw [← e]
  simp only [e2, Fin.sum_univ_succ, Fin.sum_univ_zero, add_zero, ← add_assoc]
  rfl

/-- The same with each share selected after its sum. -/
theorem sum13' {n : ℕ} {w : BitVec 32} (h : w.toNat < 13) (base : EReal) (g : Fin 13 → Fin n → EReal) :
    base + (if w = 0#32 then (∑ r, g 0 r) else 0) + (if w = 1#32 then (∑ r, g 1 r) else 0) + (if w = 2#32 then (∑ r, g 2 r) else 0) + (if w = 3#32 then (∑ r, g 3 r) else 0) + (if w = 4#32 then (∑ r, g 4 r) else 0) + (if w = 5#32 then (∑ r, g 5 r) else 0) + (if w = 6#32 then (∑ r, g 6 r) else 0) + (if w = 7#32 then (∑ r, g 7 r) else 0) + (if w = 8#32 then (∑ r, g 8 r) else 0) + (if w = 9#32 then (∑ r, g 9 r) else 0) + (if w = 10#32 then (∑ r, g 10 r) else 0) + (if w = 11#32 then (∑ r, g 11 r) else 0) + (if w = 12#32 then (∑ r, g 12 r) else 0)
      = base + ∑ r, g (nb w) r := by
  have e : (∑ n : Fin 13, if w = BitVec.ofNat 32 n.val then (∑ r, g n r) else 0) = ∑ r, g (nb w) r := sum_select h _
  rw [← e]
  simp only [Fin.sum_univ_succ, Fin.sum_univ_zero, add_zero, ← add_assoc]
  rfl

/-- Nibble `j` of a 32-bit word as a signed value: shifted up to the top of the word, then back down with its sign. -/
def nibv (w : BitVec 32) (j : ℕ) : EReal :=
  (FloatOps.sitofp FTy.bf16 (IntOp.shrsi ArithUnit.vector (IntOp.shli ArithUnit.vector w (IntOp.addi (IntOp.muli (BitVec.ofNat 32 j) 4294967292#32) 28#32)) 28#32) : Ideal .bf16)

end Cert.Val
end
-- ==== Proof.Ref.Gather.lean ====
/- Looking up one entry per row: the gathers of both programs, read at an index when the row's index word is below thirteen. -/
module

public import proofs.«01_k».proof.Proof.KernelIdeal.Words
public import Idealize.ShloMosaic.Lib.ValueIdxCore

@[expose] public section
noncomputable section
namespace Cert.Val
open Idealize.ShloMosaic

/-- Dimension numbers of `table[idx]` for a table of thirteen and one index per row. -/
abbrev tableDims (wf : GatherDims.WF ⟨1, ![13]⟩ ⟨2, ![256, 1]⟩ ⟨1, ![256]⟩ [] [0] [] [0] [] 1 ![1]) :
    GatherDims ⟨1, ![13]⟩ ⟨2, ![256, 1]⟩ ⟨1, ![256]⟩ where
  offsetDims := []
  collapsedSliceDims := [0]
  operandBatchingDims := []
  startIndicesBatchingDims := []
  startIndexMap := [0]
  indexVectorDim := 1
  sliceSizes := ![1]
  wf := wf

theorem clamp_lt (w : BitVec 32) : min w.toInt.toNat 12 < 13 := by omega

theorem gather_table {α : Type} (wf : GatherDims.WF ⟨1, ![13]⟩ ⟨2, ![256, 1]⟩ ⟨1, ![256]⟩ [] [0] [] [0] [] 1 ![1])
    (x : (⟨1, ![13]⟩ : Shape).Idx → α) (idx : IVec ⟨2, ![256, 1]⟩ 32) (b : Fin 256) :
    Host.gather (tableDims wf) x idx (ix1 b) = x (ix1 ⟨min (idx (ix2 b 0)).toInt.toNat 12, clamp_lt _⟩) := by
  unfold Host.gather
  congr 1
  funext a
  obtain rfl : a = 0 := Subsingleton.elim _ _
  refine Fin.ext ?_
  show (tableDims wf).start (ix1 b) idx 0 + (tableDims wf).batchCoord (ix1 b) 0 + (tableDims wf).offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims wf).startIndexMap from List.mem_singleton.mpr rfl)]
  have hsi : (tableDims wf).siIdx (ix1 b) ⟨List.idxOf (0 : Fin 1) (tableDims wf).startIndexMap,
      List.idxOf_lt_length_iff.2 (List.mem_singleton.mpr rfl)⟩ = ix2 b 0 := by
    funext b; refine Fin.ext ?_
    match b with
    | ⟨0, _⟩ => rfl
    | ⟨1, _⟩ => rfl
  rw [hsi]
  rfl

/-- Dimension numbers of picking, per row, one of thirteen slices of `n` entries. -/
abbrev pickDims (n : ℕ) (wf : GatherDims.WF ⟨3, ![256, 13, n]⟩ ⟨3, ![256, 1, 1]⟩ ⟨3, ![256, 1, n]⟩ [2] [1] [0] [1] [0] 2 ![1, 1, n]) :
    GatherDims ⟨3, ![256, 13, n]⟩ ⟨3, ![256, 1, 1]⟩ ⟨3, ![256, 1, n]⟩ where
  offsetDims := [2]
  collapsedSliceDims := [1]
  operandBatchingDims := [0]
  startIndicesBatchingDims := [0]
  startIndexMap := [1]
  indexVectorDim := 2
  sliceSizes := ![1, 1, n]
  wf := wf

theorem gather_pick {α : Type} (n : ℕ) (wf : GatherDims.WF ⟨3, ![256, 13, n]⟩ ⟨3, ![256, 1, 1]⟩ ⟨3, ![256, 1, n]⟩ [2] [1] [0] [1] [0] 2 ![1, 1, n])
    (x : (⟨3, ![256, 13, n]⟩ : Shape).Idx → α) (idx : IVec ⟨3, ![256, 1, 1]⟩ 32) (b : Fin 256) (r : Fin n) :
    Host.gather (pickDims n wf) x idx (ix3 b 0 r) = x (ix3 b ⟨min (idx (ix3 b 0 0)).toInt.toNat 12, clamp_lt _⟩ r) := by
  unfold Host.gather
  congr 1
  funext a
  refine Fin.ext ?_
  show (pickDims n wf).start (ix3 b 0 r) idx a + (pickDims n wf).batchCoord (ix3 b 0 r) a + (pickDims n wf).offCoord (ix3 b 0 r) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (pickDims n wf).startIndexMap from List.mem_singleton.mpr rfl)]
    have hsi : (pickDims n wf).siIdx (ix3 b 0 r) ⟨List.idxOf (1 : Fin 3) (pickDims n wf).startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => by simp at h)]
    have hs : (pickDims n wf).start (ix3 b 0 r) idx 2 = 0 := by
      unfold GatherDims.start
      rw [dif_neg (by simp)]
    rw [hs]
    simp only [Nat.zero_add, Nat.add_zero]
    unfold GatherDims.offCoord
    rw [dif_pos ((GatherDims.mem_sKept _ _).mpr ⟨by simp, by simp⟩)]
    rfl

/-- Below thirteen, the clamped signed reading of a word is the word. -/
theorem clamp_eq {w : BitVec 32} (h : w.toNat < 13) : (⟨min w.toInt.toNat 12, clamp_lt w⟩ : Fin 13) = nb w := by
  have e : w.toInt = (w.toNat : ℤ) := by
    rw [BitVec.toInt_eq_toNat_of_lt (by omega)]
  apply Fin.ext
  simp only [nb, e, Int.toNat_natCast]
  omega

/-- Below thirteen, a word is its own wrapped index. -/
theorem wrap_eq {w : BitVec 32} (h : w.toNat < 13) : Scalar.select (IntOp.cmpi .slt w 0#32) (IntOp.addi w 13#32) w = w := by
  obtain ⟨n, hn⟩ : ∃ n : Fin 13, w = BitVec.ofNat 32 n.val := ⟨⟨w.toNat, h⟩, by simp⟩
  subst hn
  fin_cases n <;> rfl

/-- Below thirteen, a word passes the range check. -/
theorem range_eq {w : BitVec 32} (h : w.toNat < 13) : IntOp.andi (IntOp.cmpi .sge w 0#32) (IntOp.cmpi .sle w 12#32) = 1#1 := by
  obtain ⟨n, hn⟩ : ∃ n : Fin 13, w = BitVec.ofNat 32 n.val := ⟨⟨w.toNat, h⟩, by simp⟩
  subst hn
  fin_cases n <;> rfl

theorem sitofp_uitofp_bit (w : BitVec 32) (n : ℕ) : (FloatOps.uitofp FTy.f32 (IntOp.cmpi .eq w (BitVec.ofNat 32 n)) : Ideal .f32) = if w = BitVec.ofNat 32 n then (1 : EReal) else 0 := by
  by_cases h : w = BitVec.ofNat 32 n
  · subst h
    simp [IntOp.cmpi, FloatOps.uitofp]
  · have e : (w == BitVec.ofNat 32 n) = false := by simpa using h
    simp [IntOp.cmpi, FloatOps.uitofp, e, h]

/-- A sum over all adapters weighted by whether a row names them is the named adapter's share. -/
theorem onehot_sum {n : ℕ} {w : BitVec 32} (h : w.toNat < 13) (g : Fin 13 → Fin n → EReal) (s : Fin n → EReal) :
    (∑ a : Fin 13, ∑ r : Fin n, g a r * ((if w = BitVec.ofNat 32 a.val then (1 : EReal) else 0) * s r)) = ∑ r : Fin n, s r * g (nb w) r := by
  rw [Finset.sum_eq_single (nb w)]
  · refine Finset.sum_congr rfl fun r _ => ?_
    rw [if_pos ((eq_ofNat_iff h (nb w)).mpr rfl), one_mul, mul_comm]
  · intro a _ ha
    refine Finset.sum_eq_zero fun r _ => ?_
    rw [if_neg (fun e => ha ((eq_ofNat_iff h a).mp e).symm), zero_mul, mul_zero]
  · intro ha
    exact absurd (Finset.mem_univ _) ha

/-- The same with the factors in the other order. -/
theorem onehot_sum' {n : ℕ} {w : BitVec 32} (h : w.toNat < 13) (g : Fin 13 → Fin n → EReal) (s : Fin n → EReal) :
    (∑ a : Fin 13, ∑ r : Fin n, ((if w = BitVec.ofNat 32 a.val then (1 : EReal) else 0) * s r) * g a r) = ∑ r : Fin n, s r * g (nb w) r := by
  rw [← onehot_sum h g s]
  exact Finset.sum_congr rfl fun a _ => Finset.sum_congr rfl fun r _ => mul_comm _ _

/-- Taking a field of four bits out of a word by an arithmetic shift, a mask and a sign correction is taking it out by a left shift and an arithmetic right shift. -/
theorem nib_eq (w : BitVec 32) {j : ℕ} (hj : j < 8) :
    Scalar.select (IntOp.cmpi .sge (IntOp.andi (IntOp.shrsi .host w (IntOp.muli 4#32 (BitVec.ofNat 32 j))) 15#32) 8#32)
      (IntOp.subi (IntOp.andi (IntOp.shrsi .host w (IntOp.muli 4#32 (BitVec.ofNat 32 j))) 15#32) 16#32)
      (IntOp.andi (IntOp.shrsi .host w (IntOp.muli 4#32 (BitVec.ofNat 32 j))) 15#32)
      = IntOp.shrsi .vector (IntOp.shli .vector w (IntOp.addi (IntOp.muli (BitVec.ofNat 32 j) 4294967292#32) 28#32)) 28#32 := by
  have h1 : IntOp.andi (IntOp.shrsi .host w (IntOp.muli 4#32 (BitVec.ofNat 32 j))) 15#32 = (w.extractLsb' (4 * j) 4).zeroExtend 32 := by
    have e : IntOp.muli 4#32 (BitVec.ofNat 32 j) = BitVec.ofNat 32 (4 * j) := by
      interval_cases j <;> rfl
    rw [e]
    have e2 : (BitVec.ofNat 32 (4 * j)).toNat = 4 * j := by
      rw [BitVec.toNat_ofNat]; omega
    unfold IntOp.shrsi IntOp.andi
    rw [e2, if_pos (by omega)]
    unfold BitVec.sshiftRight'
    rw [e2]
    apply BitVec.eq_of_getLsbD_eq
    intro i hi
    simp only [BitVec.truncate_eq_setWidth, BitVec.getLsbD_and, BitVec.getLsbD_sshiftRight, BitVec.getLsbD_setWidth, BitVec.getLsbD_extractLsb']
    clear e e2
    interval_cases i <;> interval_cases j <;> simp
  have h2 : IntOp.shrsi .vector (IntOp.shli .vector w (IntOp.addi (IntOp.muli (BitVec.ofNat 32 j) 4294967292#32) 28#32)) 28#32 = (w.extractLsb' (4 * j) 4).signExtend 32 := by
    have e : IntOp.addi (IntOp.muli (BitVec.ofNat 32 j) 4294967292#32) 28#32 = BitVec.ofNat 32 (28 - 4 * j) := by
      interval_cases j <;> rfl
    rw [e]
    have e2 : (BitVec.ofNat 32 (28 - 4 * j)).toNat = 28 - 4 * j := by
      rw [BitVec.toNat_ofNat]; omega
    unfold IntOp.shrsi IntOp.shli
    rw [if_pos (show (28#32).toNat < 32 by decide), if_pos (by rw [e2]; omega)]
    unfold BitVec.sshiftRight'
    apply BitVec.eq_of_getLsbD_eq
    intro i hi
    simp only [BitVec.shiftLeft_eq', e2, show (28#32).toNat = 28 from rfl, BitVec.getLsbD_sshiftRight, BitVec.getLsbD_signExtend, BitVec.msb_eq_getLsbD_last, BitVec.getLsbD_shiftLeft, BitVec.getLsbD_extractLsb']
    clear h1 e e2
    interval_cases i <;> interval_cases j <;> simp
  rw [h1, h2]
  generalize w.extractLsb' (4 * j) 4 = v
  revert v
  decide
end Cert.Val
end
-- ==== Proof.Ref.RefVal.lean ====
/- The reference's results, read at an index. -/
module

public import proofs.«01_k».proof.Proof.RefRun
public import proofs.«01_k».proof.Proof.Ref.Gather
public import Idealize.ShloMosaic.Lib.Pipeline.ReadBack

@[expose] public section
set_option maxRecDepth 16384
noncomputable section
namespace Cert.ReferenceIdeal.Read
open Idealize.ShloMosaic Idealize.ShloMosaic.Tactic
open Cert.Val

/-- The dequantized gate and up weight. -/
theorem v31_at (x2 : Vec Ideal S512x28672 .i32) (x3 : Vec Ideal S32x28672 .bf16) (k : Fin 4096) (F : Fin 28672) :
    val_main_v31 (F := Ideal) x2 x3 (ix2 k F) = nibv (x2 (ix2 (⟨k.val / 8, by omega⟩ : Fin 512) F)) (k.val % 8) * x3 (ix2 (⟨k.val / 128, by omega⟩ : Fin 32) F) := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_c_1, val_main_c_2, val_main_c_3, val_main_c_4]
  have e1 : k.val % 128 % 8 = k.val % 8 := by omega
  have e2 : (⟨k.val / 128 * 16 + k.val % 128 / 8, by omega⟩ : Fin 512) = ⟨k.val / 8, by omega⟩ := Fin.ext (by dsimp only; omega)
  simp only [e1, e2]
  rw [nib_eq _ (Nat.mod_lt _ (by decide))]
  rfl

/-- The dequantized down weight. -/
theorem v82_at (x4 : Vec Ideal S1792x4096 .i32) (x5 : Vec Ideal S112x4096 .bf16) (k : Fin 14336) (d : Fin 4096) :
    val_main_v82 (F := Ideal) x4 x5 (ix2 k d) = nibv (x4 (ix2 (⟨k.val / 8, by omega⟩ : Fin 1792) d)) (k.val % 8) * x5 (ix2 (⟨k.val / 128, by omega⟩ : Fin 112) d) := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_c_0, val_main_c_1, val_main_c_2, val_main_c_3, val_main_c_4, val_main_c_6, val_main_c_7, val_main_c_8, val_main_c_9]
  have e1 : k.val % 128 % 8 = k.val % 8 := by omega
  have e2 : (⟨k.val / 128 * 16 + k.val % 128 / 8, by omega⟩ : Fin 1792) = ⟨k.val / 8, by omega⟩ := Fin.ext (by dsimp only; omega)
  simp only [e1, e2]
  rw [nib_eq _ (Nat.mod_lt _ (by decide))]
  rfl

theorem v32_at (x0 : Vec Ideal S256x1x4096 .bf16) (x2 : Vec Ideal S512x28672 .i32) (x3 : Vec Ideal S32x28672 .bf16) (b : Fin 256) (F : Fin 28672) :
    val_main_v32 (F := Ideal) x0 x2 x3 (ix2 b F) = ∑ k : Fin 4096, x0 (ix3 b 0 k) * (nibv (x2 (ix2 (⟨k.val / 8, by omega⟩ : Fin 512) F)) (k.val % 8) * x3 (ix2 (⟨k.val / 128, by omega⟩ : Fin 32) F)) := by
  pointwise [val_main_v32, val_main_v0, v31_at]

theorem v33_at (x0 : Vec Ideal S256x1x4096 .bf16) (x6 : Vec Ideal S13x4096x128 .bf16) (b : Fin 256) (n : Fin 13) (r : Fin 128) :
    val_main_v33 (F := Ideal) x0 x6 (ix3 b n r) = ∑ k : Fin 4096, x0 (ix3 b 0 k) * x6 (ix3 n k r) := by
  pointwise [val_main_v33, val_main_v0]

theorem v8_at (x1 : Vec Ideal S256 .i32) (b : Fin 256) (hb : (x1 (ix1 b) : BitVec 32).toNat < 13) :
    val_main_v8 (F := Ideal) x1 (ix2 b 0) = x1 (ix1 b) := by
  pointwise [val_main_v8, val_main_v7, val_main_v6, val_main_v5, val_main_v4, val_main_v3, val_main_c, val_main_c_0]
  exact wrap_eq hb

/-- The scaling of the adapter that a row names. -/
theorem v9_at (x1 : Vec Ideal S256 .i32) (x10 : Vec Ideal S13 .f32) (b : Fin 256) (hb : (x1 (ix1 b) : BitVec 32).toNat < 13) :
    val_main_v9 (F := Ideal) x1 x10 (ix1 b) = x10 (ix1 (nb (x1 (ix1 b)))) := by
  unfold val_main_v9
  refine (gather_table gather_S13_S256x1_S256_n_0_n_n_0_1_1.wf x10 (val_main_v8 (F := Ideal) x1) b).trans ?_
  exact congrArg (fun n => x10 (ix1 n)) (by rw [← clamp_eq hb]; simp only [v8_at x1 b hb])

theorem call2_v4_at (x1 : Vec Ideal S256 .i32) (b : Fin 256) (hb : (x1 (ix1 b) : BitVec 32).toNat < 13) :
    val_main_call2_v4 (F := Ideal) x1 (ix3 b 0 0) = x1 (ix1 b) := by
  pointwise [val_main_call2_v4, val_main_call2_v3, val_main_call2_v2, val_main_call2_v1, val_main_call2_v0, val_main_call2_c, val_main_call2_c_0, val_main_v10]
  exact wrap_eq hb

theorem call2_v11_at (x1 : Vec Ideal S256 .i32) (b : Fin 256) (hb : (x1 (ix1 b) : BitVec 32).toNat < 13) :
    val_main_call2_v11 (F := Ideal) x1 (ix2 b 0) = 1#1 := by
  pointwise [val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_c, val_main_call2_c_0, val_main_call2_c_1, val_main_call2_c_2, val_main_call2_c_3, val_main_v10]
  rw [wrap_eq hb, range_eq hb]
  rfl

theorem call2_v12_at (x0 : Vec Ideal S256x1x4096 .bf16) (x1 : Vec Ideal S256 .i32) (x6 : Vec Ideal S13x4096x128 .bf16) (b : Fin 256) (r : Fin 128) (hb : (x1 (ix1 b) : BitVec 32).toNat < 13) :
    val_main_call2_v12 (F := Ideal) x0 x1 x6 (ix3 b 0 r) = val_main_v33 (F := Ideal) x0 x6 (ix3 b (nb (x1 (ix1 b))) r) := by
  unfold val_main_call2_v12
  refine (gather_pick 128 gather_S256x13x128_S256x1x1_S256x1x128_2_1_0_0_1_2_11128.wf (val_main_v33 (F := Ideal) x0 x6) (val_main_call2_v4 (F := Ideal) x1) b r).trans ?_
  exact congrArg (fun n => val_main_v33 (F := Ideal) x0 x6 (ix3 b n r)) (by rw [← clamp_eq hb]; simp only [call2_v4_at x1 b hb])

/-- The first LoRA product of a row, scaled. -/
theorem v39_at (x0 : Vec Ideal S256x1x4096 .bf16) (x1 : Vec Ideal S256 .i32) (x6 : Vec Ideal S13x4096x128 .bf16) (x10 : Vec Ideal S13 .f32) (b : Fin 256) (r : Fin 128) (hb : (x1 (ix1 b) : BitVec 32).toNat < 13) :
    val_main_v39 (F := Ideal) x0 x1 x6 x10 (ix2 b r) = (∑ k : Fin 4096, x0 (ix3 b 0 k) * x6 (ix3 (nb (x1 (ix1 b))) k r)) * x10 (ix1 (nb (x1 (ix1 b)))) := by
  pointwise [val_main_v39, val_main_v38, val_main_v37, val_main_v36, val_main_v35, val_main_v34, val_main_call2_v14, val_main_call2_v13, val_main_call2_cst]
  rw [call2_v11_at x1 b hb, call2_v12_at x0 x1 x6 b r hb, v9_at x1 x10 b hb, v33_at]
  rfl

/-- Whether a row names an adapter, as a number. -/
theorem v2_at (x1 : Vec Ideal S256 .i32) (b : Fin 256) (n : Fin 13) :
    val_main_v2 (F := Ideal) x1 (ix2 b n) = if x1 (ix1 b) = BitVec.ofNat 32 n.val then (1 : EReal) else 0 := by
  pointwise [val_main_v2, val_main_v1, val_main_call0_v4, val_main_call0_v3, val_main_call0_v2, val_main_call0_v1, val_main_call0_v0]
  exact sitofp_uitofp_bit _ _

theorem v45_at (x0 : Vec Ideal S256x1x4096 .bf16) (x1 : Vec Ideal S256 .i32) (x6 : Vec Ideal S13x4096x128 .bf16) (x7 : Vec Ideal S13x2x64x14336 .bf16) (x10 : Vec Ideal S13 .f32) (p : Fin 2) (F : Fin 14336) (b : Fin 256) (hb : (x1 (ix1 b) : BitVec 32).toNat < 13) :
    val_main_v45 (F := Ideal) x0 x1 x6 x7 x10 (ix3 p F b) = ∑ r : Fin 64, val_main_v39 (F := Ideal) x0 x1 x6 x10 (ix2 b (⟨p.val * 64 + r.val, by omega⟩ : Fin 128)) * x7 (ix4 (nb (x1 (ix1 b))) p r F) := by
  pointwise [val_main_v45, val_main_v44, val_main_v43, val_main_v42, val_main_v41, val_main_v40]
  simp only [v2_at]
  exact onehot_sum hb (fun n r => x7 (ix4 n p r F)) fun r => val_main_v39 (F := Ideal) x0 x1 x6 x10 (ix2 b (⟨p.val * 64 + r.val, by omega⟩ : Fin 128))

theorem v48_at (x0 : Vec Ideal S256x1x4096 .bf16) (x1 : Vec Ideal S256 .i32) (x2 : Vec Ideal S512x28672 .i32) (x3 : Vec Ideal S32x28672 .bf16) (x6 : Vec Ideal S13x4096x128 .bf16) (x7 : Vec Ideal S13x2x64x14336 .bf16) (x10 : Vec Ideal S13 .f32) (p : Fin 2) (F : Fin 14336) (b : Fin 256) :
    val_main_v48 (F := Ideal) x0 x1 x2 x3 x6 x7 x10 (ix3 b p F) = val_main_v32 (F := Ideal) x0 x2 x3 (ix2 b (⟨p.val * 14336 + F.val, by omega⟩ : Fin 28672)) + val_main_v45 (F := Ideal) x0 x1 x6 x7 x10 (ix3 p F b) := by
  pointwise [val_main_v48, val_main_v47, val_main_v46]

theorem v61_at (x0 : Vec Ideal S256x1x4096 .bf16) (x1 : Vec Ideal S256 .i32) (x2 : Vec Ideal S512x28672 .i32) (x3 : Vec Ideal S32x28672 .bf16) (x6 : Vec Ideal S13x4096x128 .bf16) (x7 : Vec Ideal S13x2x64x14336 .bf16) (x10 : Vec Ideal S13 .f32) (F : Fin 14336) (b : Fin 256) :
    val_main_v61 (F := Ideal) x0 x1 x2 x3 x6 x7 x10 (ix2 b F) = val_main_v48 (F := Ideal) x0 x1 x2 x3 x6 x7 x10 (ix3 b 0 F) * Ideal.logistic (val_main_v48 (F := Ideal) x0 x1 x2 x3 x6 x7 x10 (ix3 b 0 F)) * val_main_v48 (F := Ideal) x0 x1 x2 x3 x6 x7 x10 (ix3 b 1 F) := by
  pointwise [val_main_v61, val_main_v60, val_main_v59, val_main_v58, val_main_v57, val_main_v56, val_main_v55, val_main_v54, val_main_v53, val_main_v52, val_main_v51, val_main_v50, val_main_v49, val_main_cst, val_main_cst_5]
  rfl

theorem call4_v4_at (x1 : Vec Ideal S256 .i32) (b : Fin 256) (hb : (x1 (ix1 b) : BitVec 32).toNat < 13) :
    val_main_call4_v4 (F := Ideal) x1 (ix3 b 0 0) = x1 (ix1 b) := by
  pointwise [val_main_call4_v4, val_main_call4_v3, val_main_call4_v2, val_main_call4_v1, val_main_call4_v0, val_main_call4_c, val_main_call4_c_0, val_main_v10]
  exact wrap_eq hb

theorem call4_v11_at (x1 : Vec Ideal S256 .i32) (b : Fin 256) (hb : (x1 (ix1 b) : BitVec 32).toNat < 13) :
    val_main_call4_v11 (F := Ideal) x1 (ix2 b 0) = 1#1 := by
  pointwise [val_main_call4_v11, val_main_call4_v10, val_main_call4_v9, val_main_call4_v8, val_main_call4_v7, val_main_call4_v6, val_main_call4_v5, val_main_call4_v4, val_main_call4_v3, val_main_call4_v2, val_main_call4_v1, val_main_call4_v0, val_main_call4_c, val_main_call4_c_0, val_main_call4_c_1, val_main_call4_c_2, val_main_call4_c_3, val_main_v10]
  rw [wrap_eq hb, range_eq hb]
  rfl

theorem call4_v12_at (x0 : Vec Ideal S256x1x4096 .bf16) (x1 : Vec Ideal S256 .i32) (x2 : Vec Ideal S512x28672 .i32) (x3 : Vec Ideal S32x28672 .bf16) (x6 : Vec Ideal S13x4096x128 .bf16) (x7 : Vec Ideal S13x2x64x14336 .bf16) (x8 : Vec Ideal S13x14336x64 .bf16) (x10 : Vec Ideal S13 .f32) (b : Fin 256) (r : Fin 64) (hb : (x1 (ix1 b) : BitVec 32).toNat < 13) :
    val_main_call4_v12 (F := Ideal) x0 x1 x2 x3 x6 x7 x8 x10 (ix3 b 0 r) = val_main_v84 (F := Ideal) x0 x1 x2 x3 x6 x7 x8 x10 (ix3 b (nb (x1 (ix1 b))) r) := by
  unfold val_main_call4_v12
  refine (gather_pick 64 gather_S256x13x64_S256x1x1_S256x1x64_2_1_0_0_1_2_1164.wf (val_main_v84 (F := Ideal) x0 x1 x2 x3 x6 x7 x8 x10) (val_main_call4_v4 (F := Ideal) x1) b r).trans ?_
  exact congrArg (fun n => val_main_v84 (F := Ideal) x0 x1 x2 x3 x6 x7 x8 x10 (ix3 b n r)) (by rw [← clamp_eq hb]; simp only [call4_v4_at x1 b hb])

theorem v84_at (x0 : Vec Ideal S256x1x4096 .bf16) (x1 : Vec Ideal S256 .i32) (x2 : Vec Ideal S512x28672 .i32) (x3 : Vec Ideal S32x28672 .bf16) (x6 : Vec Ideal S13x4096x128 .bf16) (x7 : Vec Ideal S13x2x64x14336 .bf16) (x8 : Vec Ideal S13x14336x64 .bf16) (x10 : Vec Ideal S13 .f32) (b : Fin 256) (n : Fin 13) (r : Fin 64) :
    val_main_v84 (F := Ideal) x0 x1 x2 x3 x6 x7 x8 x10 (ix3 b n r) = ∑ F : Fin 14336, val_main_v61 (F := Ideal) x0 x1 x2 x3 x6 x7 x10 (ix2 b F) * x8 (ix3 n F r) := by
  pointwise [val_main_v84]

/-- The second LoRA product of a row, scaled. -/
theorem v90_at (x0 : Vec Ideal S256x1x4096 .bf16) (x1 : Vec Ideal S256 .i32) (x2 : Vec Ideal S512x28672 .i32) (x3 : Vec Ideal S32x28672 .bf16) (x6 : Vec Ideal S13x4096x128 .bf16) (x7 : Vec Ideal S13x2x64x14336 .bf16) (x8 : Vec Ideal S13x14336x64 .bf16) (x10 : Vec Ideal S13 .f32) (b : Fin 256) (r : Fin 64) (hb : (x1 (ix1 b) : BitVec 32).toNat < 13) :
    val_main_v90 (F := Ideal) x0 x1 x2 x3 x6 x7 x8 x10 (ix2 b r) = (∑ F : Fin 14336, val_main_v61 (F := Ideal) x0 x1 x2 x3 x6 x7 x10 (ix2 b F) * x8 (ix3 (nb (x1 (ix1 b))) F r)) * x10 (ix1 (nb (x1 (ix1 b)))) := by
  pointwise [val_main_v90, val_main_v89, val_main_v88, val_main_v87, val_main_v86, val_main_v85, val_main_call4_v14, val_main_call4_v13, val_main_call4_cst]
  rw [call4_v11_at x1 b hb, call4_v12_at x0 x1 x2 x3 x6 x7 x8 x10 b r hb, v9_at x1 x10 b hb, v84_at]
  rfl

theorem v83_at (x0 : Vec Ideal S256x1x4096 .bf16) (x1 : Vec Ideal S256 .i32) (x2 : Vec Ideal S512x28672 .i32) (x3 : Vec Ideal S32x28672 .bf16) (x4 : Vec Ideal S1792x4096 .i32) (x5 : Vec Ideal S112x4096 .bf16) (x6 : Vec Ideal S13x4096x128 .bf16) (x7 : Vec Ideal S13x2x64x14336 .bf16) (x10 : Vec Ideal S13 .f32) (b : Fin 256) (d : Fin 4096) :
    val_main_v83 (F := Ideal) x0 x1 x2 x3 x4 x5 x6 x7 x10 (ix2 b d) = ∑ f : Fin 14336, val_main_v61 (F := Ideal) x0 x1 x2 x3 x6 x7 x10 (ix2 b f) * (nibv (x4 (ix2 (⟨f.val / 8, by omega⟩ : Fin 1792) d)) (f.val % 8) * x5 (ix2 (⟨f.val / 128, by omega⟩ : Fin 112) d)) := by
  pointwise [val_main_v83, v82_at]

theorem v96_at (x0 : Vec Ideal S256x1x4096 .bf16) (x1 : Vec Ideal S256 .i32) (x2 : Vec Ideal S512x28672 .i32) (x3 : Vec Ideal S32x28672 .bf16) (x6 : Vec Ideal S13x4096x128 .bf16) (x7 : Vec Ideal S13x2x64x14336 .bf16) (x8 : Vec Ideal S13x14336x64 .bf16) (x9 : Vec Ideal S13x64x4096 .bf16) (x10 : Vec Ideal S13 .f32) (b : Fin 256) (d : Fin 4096) (hb : (x1 (ix1 b) : BitVec 32).toNat < 13) :
    val_main_v96 (F := Ideal) x0 x1 x2 x3 x6 x7 x8 x9 x10 (ix2 b d) = ∑ r : Fin 64, val_main_v90 (F := Ideal) x0 x1 x2 x3 x6 x7 x8 x10 (ix2 b r) * x9 (ix3 (nb (x1 (ix1 b))) r d) := by
  pointwise [val_main_v96, val_main_v95, val_main_v94, val_main_v93, val_main_v92, val_main_v91]
  simp only [v2_at]
  exact onehot_sum' hb (fun n r => x9 (ix3 n r d)) fun r => val_main_v90 (F := Ideal) x0 x1 x2 x3 x6 x7 x8 x10 (ix2 b r)

theorem v98_at (x0 : Vec Ideal S256x1x4096 .bf16) (x1 : Vec Ideal S256 .i32) (x2 : Vec Ideal S512x28672 .i32) (x3 : Vec Ideal S32x28672 .bf16) (x4 : Vec Ideal S1792x4096 .i32) (x5 : Vec Ideal S112x4096 .bf16) (x6 : Vec Ideal S13x4096x128 .bf16) (x7 : Vec Ideal S13x2x64x14336 .bf16) (x8 : Vec Ideal S13x14336x64 .bf16) (x9 : Vec Ideal S13x64x4096 .bf16) (x10 : Vec Ideal S13 .f32) (b : Fin 256) (d : Fin 4096) :
    val_main_v98 (F := Ideal) x0 x1 x2 x3 x4 x5 x6 x7 x8 x9 x10 (ix2 b d) = val_main_v83 (F := Ideal) x0 x1 x2 x3 x4 x5 x6 x7 x10 (ix2 b d) + val_main_v96 (F := Ideal) x0 x1 x2 x3 x6 x7 x8 x9 x10 (ix2 b d) := by
  pointwise [val_main_v98, val_main_v97]

end Cert.ReferenceIdeal.Read
end
-- ==== Proof.KernelIdeal.Val0.lean ====
/- The first kernel region's result: each row's activations times the first LoRA factor of the adapter that the row names, scaled. -/
module

public import proofs.«01_k».proof.Proof.KernelIdeal.Region0
public import proofs.«01_k».proof.Proof.KernelIdeal.Words
public import Idealize.ShloMosaic.Lib.Pipeline.ReadBack

@[expose] public section
set_option maxRecDepth 16384
noncomputable section
namespace Cert.KernelIdeal.Gen
open Idealize.ShloMosaic Idealize.ShloMosaic.TcCoe Idealize.ShloMosaic.Tactic
open Idealize.SL Idealize.SL.Sem
open Idealize.ShloMosaic.Pipeline (Dat)
open Cert.Val

variable (V : (c : Dev nD) → (b : Ref sig .tc) → Buf (Elt Ideal) ((c : Thread nD τ).loc b))

theorem k0_pay2_apply (i : grid0.Coords) (v3 : Vec Ideal S256x1 .i32) (v7 : Vec Ideal S256x4096 .bf16) (v9 : Vec Ideal S1x4096x128 .bf16) (v12 : Vec Ideal S256x128 .f32) (b : Fin 256) (r : Fin 128) :
    k0_pay2 i v3 v7 v9 v12 (ix2 b r) = if v3 (ix2 b 0) = BitVec.ofNat 32 (i 0).val then ∑ k : Fin 4096, v7 (ix2 b k) * v9 (ix3 0 k r) else v12 (ix2 b r) := by
  pointwise [k0_pay2]
  rw [select_eq]

theorem k0_pay3_apply (v22 : Vec Ideal S256x128 .f32) (v23 : Vec Ideal S256x1 .f32) (b : Fin 256) (r : Fin 128) :
    k0_pay3 v22 v23 (ix2 b r) = v22 (ix2 b r) * v23 (ix2 b 0) := by
  pointwise [k0_pay3]

theorem k0_pay1_apply (b : Fin 256) (r : Fin 128) : k0_pay1 (F := Ideal) (ix2 b r) = 0 := by
  pointwise [k0_pay1]

theorem wi0_0 : ∀ t : Fin cfg0.N, win0_0.index t 0 = 0 ∧ win0_0.index t 1 = 0 := by decide +kernel
theorem wi0_1 : ∀ t : Fin cfg0.N, win0_1.index t 0 = 0 ∧ win0_1.index t 1 = 0 := by decide +kernel
theorem wi0_2 : ∀ t : Fin cfg0.N, win0_2.index t 0 = 0 ∧ win0_2.index t 1 = 0 := by decide +kernel
theorem wi0_3 : ∀ t : Fin cfg0.N, win0_3.index t 0 = t.val ∧ win0_3.index t 1 = 0 ∧ win0_3.index t 2 = 0 := by decide +kernel

/-- Row `b`'s activations times the first LoRA factor of the adapter it names. -/
def dot0 (x : Vec Ideal S256x4096 .bf16) (idx : Vec Ideal S256x1 .i32) (A : Vec Ideal S13x4096x128 .bf16) (b : Fin 256) (r : Fin 128) : EReal :=
  ∑ k : Fin 4096, x (ix2 b k) * A (ix3 (nb (idx (ix2 b 0))) k r)

/-- … times the row's scaling: the first region's result. -/
def fin0 (x : Vec Ideal S256x4096 .bf16) (idx : Vec Ideal S256x1 .i32) (sc : Vec Ideal S256x1 .f32) (A : Vec Ideal S13x4096x128 .bf16) : Vec Ideal S256x128 .bf16 :=
  fun y => dot0 x idx A (y 0) (y 1) * sc (ix2 (y 0 : Fin 256) 0)

theorem step0 (c : Dev nD) (t : Fin cfg0.N) (v : Vec Ideal S256x128 .f32) (hI : ∀ b : Fin 256, (V c main_v1 (ix2 b 0) : BitVec 32).toNat < 13) (b : Fin 256) (r : Fin 128) :
    k0_pay2 (grid0.coords t) (iblk0 V c 1 t) (iblk0 V c 0 t) (iblk0 V c 3 t) v (ix2 b r)
      = if (V c main_v1 (ix2 b 0) : BitVec 32).toNat = t.val then dot0 (V c main_v0) (V c main_v1) (V c main_arg6) b r else v (ix2 b r) := by
  have ht : t.val < 13 := Nat.lt_of_lt_of_eq t.isLt N_0
  have e0 : (grid0.coords t 0).val = t.val / 1 % 13 := Pipeline.Grid.coords_val t 0 (by decide) rfl
  have e1 : (grid0.coords t 0).val = t.val := by omega
  have hx : ∀ k : Fin 4096, iblk0 V c 0 t (ix2 b k) = V c main_v0 (ix2 b k) := fun k => by blk_ext [iblk0, wi0_0 t]
  have hi : iblk0 V c 1 t (ix2 b 0) = V c main_v1 (ix2 b 0) := by blk_ext [iblk0, wi0_1 t]
  have hA : ∀ k : Fin 4096, iblk0 V c 3 t (ix3 0 k r) = V c main_arg6 (ix3 (⟨t.val, ht⟩ : Fin 13) k r) := fun k => by blk_ext [iblk0, wi0_3 t]
  rw [k0_pay2_apply, e1, hi]
  have hb := hI b
  by_cases h : (V c main_v1 (ix2 b 0) : BitVec 32).toNat = t.val
  · have h' : (V c main_v1 (ix2 b 0) : BitVec 32) = BitVec.ofNat 32 t.val := by
      apply BitVec.eq_of_toNat_eq
      rw [BitVec.toNat_ofNat, h]; omega
    have hn : nb (V c main_v1 (ix2 b 0)) = (⟨t.val, ht⟩ : Fin 13) := by
      apply Fin.ext
      simp only [nb]
      omega
    rw [if_pos h', if_pos h]
    unfold dot0
    rw [hn]
    exact Finset.sum_congr rfl fun k _ => by rw [hx, hA]
  · have h' : ¬ (V c main_v1 (ix2 b 0) : BitVec 32) = BitVec.ofNat 32 t.val := by
      intro e
      apply h
      rw [e, BitVec.toNat_ofNat]; omega
    rw [if_neg h', if_neg h]

theorem acc0 (c : Dev nD) (hI : ∀ b : Fin 256, (V c main_v1 (ix2 b 0) : BitVec 32).toNat < 13) (b : Fin 256) (r : Fin 128) :
    ∀ (n : ℕ) (hn : n < cfg0.N), (outsAt0 V c n hn).2 (ix2 b r)
      = if (V c main_v1 (ix2 b 0) : BitVec 32).toNat ≤ n then dot0 (V c main_v0) (V c main_v1) (V c main_arg6) b r else 0 := by
  intro n
  induction n with
  | zero =>
    intro hn
    rw [outsAt0_A V c ⟨0, hn⟩ rfl (by simp)]
    frame_out
    rw [step0 V c ⟨0, hn⟩ _ hI, k0_pay1_apply]
    simp only [Nat.le_zero]
  | succ n ih =>
    intro hn
    have hN : n + 1 < 13 := Nat.lt_of_lt_of_eq hn N_0
    by_cases h1 : (n + 1) % 13 = 12
    · rw [outsAt0_C V c ⟨n + 1, hn⟩ (by dsimp only; omega) h1]
      frame_out
      simp only [read_unread_whole]
      rw [step0 V c ⟨n + 1, hn⟩ _ hI]
      simp only [Nat.add_sub_cancel, ih]
      split_ifs <;> first | rfl | (exfalso; omega)
    · rw [outsAt0_B V c ⟨n + 1, hn⟩ (by dsimp only; omega) h1]
      frame_out
      simp only [read_unread_whole]
      rw [step0 V c ⟨n + 1, hn⟩ _ hI]
      simp only [Nat.add_sub_cancel, ih]
      split_ifs <;> first | rfl | (exfalso; omega)

theorem final0 (c : Dev nD) (hI : ∀ b : Fin 256, (V c main_v1 (ix2 b 0) : BitVec 32).toNat < 13) :
    (dat0 V c).arrAt 4 cfg0.N = fin0 (V c main_v0) (V c main_v1) (V c main_v9) (V c main_arg6) := by
  refine (dat0 V c).arrAt_eq_of_after_last 4 t0_12 (by decide +kernel) _ fun j => ?_
  blk_simp
  obtain ⟨b, r, rfl⟩ : ∃ (b : Fin 256) (r : Fin 128), j = ix2 b r := ⟨j 0, j 1, by idx_ext⟩
  rw [after0_4, outsAt0_C V c t0_12 (by decide) (by decide)]
  frame_out
  simp only [read_unread_whole]
  have ht : t0_12.val = 12 := rfl
  have hs : iblk0 V c 2 t0_12 (ix2 b 0) = V c main_v9 (ix2 b 0) := by blk_ext [iblk0, wi0_2 t0_12]
  have hb := hI b
  rw [k0_pay3_apply, step0 V c t0_12 _ hI, acc0 V c hI, ht, hs]
  show _ = dot0 (V c main_v0) (V c main_v1) (V c main_arg6) b r * V c main_v9 (ix2 b 0)
  congr 1
  split_ifs <;> first | rfl | (exfalso; omega)
end Cert.KernelIdeal.Gen
end
-- ==== Proof.KernelIdeal.Val1a.lean ====
/- What the second kernel region's body leaves at one grid point: the hidden activations of its block of features, and what it adds to the carried low-rank sums. -/
module

public import proofs.«01_k».proof.Proof.KernelIdeal.Region1
public import proofs.«01_k».proof.Proof.KernelIdeal.Words
public import Idealize.ShloMosaic.Lib.Pipeline.ReadBack

@[expose] public section
set_option maxRecDepth 16384
noncomputable section
namespace Cert.KernelIdeal.Gen
open Idealize.ShloMosaic Idealize.ShloMosaic.TcCoe Idealize.ShloMosaic.Tactic
open Idealize.SL Idealize.SL.Sem
open Idealize.ShloMosaic.Pipeline (Dat)
open Cert.Val

/-- Where the first factor's column `r` of projection `p` lies among all 128 columns. -/
def col (p : Fin 2) (r : Fin 64) : Fin 128 :=
  match p with
  | 0 => ⟨r.val, by omega⟩
  | 1 => ⟨64 + r.val, by omega⟩

/-- Gate (`p = 0`) or up (`p = 1`) projection of row `b` at feature `f` of a block: the dequantized product plus the LoRA share of the adapter the row names. -/
def proj (p : Fin 2) (x : Vec Ideal S256x4096 .bf16) (idx : Vec Ideal S256x1 .i32) (s : Vec Ideal S256x128 .bf16) (W : Vec Ideal S512x512 .i32) (sw : Vec Ideal S32x512 .bf16) (B : Vec Ideal S13x2x64x512 .bf16) (b : Fin 256) (f : Fin 512) : EReal :=
  (∑ k : Fin 4096, x (ix2 b k) * (nibv (W (ix2 (⟨k.val / 8, by omega⟩ : Fin 512) f)) (k.val % 8) * sw (ix2 (⟨k.val / 128, by omega⟩ : Fin 32) f)))
    + ∑ r : Fin 64, s (ix2 b (col p r)) * B (ix4 (nb (idx (ix2 b 0))) p r f)

/-- The gated activation of two projections. -/
def act (g u : EReal) : EReal := g * Ideal.logistic g * u

theorem proj0_def (x : Vec Ideal S256x4096 .bf16) (idx : Vec Ideal S256x1 .i32) (s : Vec Ideal S256x128 .bf16) (W : Vec Ideal S512x512 .i32) (sw : Vec Ideal S32x512 .bf16) (B : Vec Ideal S13x2x64x512 .bf16) (b : Fin 256) (f : Fin 512) :
    proj 0 x idx s W sw B b f = (∑ k : Fin 4096, x (ix2 b k) * (nibv (W (ix2 (⟨k.val / 8, by omega⟩ : Fin 512) f)) (k.val % 8) * sw (ix2 (⟨k.val / 128, by omega⟩ : Fin 32) f)))
    + ∑ r : Fin 64, s (ix2 b (⟨r.val, by omega⟩ : Fin 128)) * B (ix4 (nb (idx (ix2 b 0))) 0 r f) := rfl

theorem proj1_def (x : Vec Ideal S256x4096 .bf16) (idx : Vec Ideal S256x1 .i32) (s : Vec Ideal S256x128 .bf16) (W : Vec Ideal S512x512 .i32) (sw : Vec Ideal S32x512 .bf16) (B : Vec Ideal S13x2x64x512 .bf16) (b : Fin 256) (f : Fin 512) :
    proj 1 x idx s W sw B b f = (∑ k : Fin 4096, x (ix2 b k) * (nibv (W (ix2 (⟨k.val / 8, by omega⟩ : Fin 512) f)) (k.val % 8) * sw (ix2 (⟨k.val / 128, by omega⟩ : Fin 32) f)))
    + ∑ r : Fin 64, s (ix2 b (⟨64 + r.val, by omega⟩ : Fin 128)) * B (ix4 (nb (idx (ix2 b 0))) 1 r f) := rfl

theorem act_congr {g g' u u' : EReal} (h : g = g') (h' : u = u') : g * Ideal.logistic g * u = act g' u' := by
  rw [h, h', act]

section Body
variable (c : Dev nD) (i : grid1.Coords)
  (arg1 : Memref sig .tc .vmem S256x4096 .bf16) (harg1 : arg1.IsWhole)
  (arg2 : Memref sig .tc .vmem S256x1 .i32) (harg2 : arg2.IsWhole)
  (arg3 : Memref sig .tc .vmem S256x1 .f32) (harg3 : arg3.IsWhole)
  (arg4 : Memref sig .tc .vmem S256x128 .bf16) (harg4 : arg4.IsWhole)
  (arg5 : Memref sig .tc .vmem S512x512 .i32) (harg5 : arg5.IsWhole)
  (arg6 : Memref sig .tc .vmem S512x512 .i32) (harg6 : arg6.IsWhole)
  (arg7 : Memref sig .tc .vmem S32x512 .bf16) (harg7 : arg7.IsWhole)
  (arg8 : Memref sig .tc .vmem S32x512 .bf16) (harg8 : arg8.IsWhole)
  (arg9 : Memref sig .tc .vmem S13x2x64x512 .bf16) (harg9 : arg9.IsWhole)
  (arg10 : Memref sig .tc .vmem S13x64x512 .bf16) (harg10 : arg10.IsWhole)
  (arg11 : Memref sig .tc .vmem S256x512 .bf16) (harg11 : arg11.IsWhole)
  (arg12 : Memref sig .tc .vmem S256x64 .bf16) (harg12 : arg12.IsWhole)
  (arg13 : Memref sig .tc .vmem S256x64 .f32) (harg13 : arg13.IsWhole)
  (x0 : Vec Ideal S256x4096 .bf16) (x1 : Vec Ideal S256x1 .i32) (x2 : Vec Ideal S256x1 .f32) (x3 : Vec Ideal S256x128 .bf16) (x4 : Vec Ideal S512x512 .i32) (x5 : Vec Ideal S512x512 .i32) (x6 : Vec Ideal S32x512 .bf16) (x7 : Vec Ideal S32x512 .bf16) (x8 : Vec Ideal S13x2x64x512 .bf16) (x9 : Vec Ideal S13x64x512 .bf16)
  (b : Fin 256)

theorem out1_A_10_apply (hc0 : cond1_0 i) (hc1 : ¬cond1_1 i) (hb : (x1 (ix2 b 0) : BitVec 32).toNat < 13) (f : Fin 512) :
    out1_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 (ix2 b f) = act (proj 0 x0 x1 x3 x4 x6 x8 b f) (proj 1 x0 x1 x3 x5 x7 x8 b f) := by
  frame_out
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37]
  simp only [select_eq]
  exact act_congr
    ((sum13 hb _ fun n r => x3 (ix2 b (⟨r.val, by omega⟩ : Fin 128)) * x8 (ix4 n 0 r f)).trans (proj0_def x0 x1 x3 x4 x6 x8 b f).symm)
    ((sum13 hb _ fun n r => x3 (ix2 b (⟨64 + r.val, by omega⟩ : Fin 128)) * x8 (ix4 n 1 r f)).trans (proj1_def x0 x1 x3 x5 x7 x8 b f).symm)

theorem sout1_A_0_apply (hc0 : cond1_0 i) (hc1 : ¬cond1_1 i) (hb : (x1 (ix2 b 0) : BitVec 32).toNat < 13) (r : Fin 64) :
    sout1_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 (ix2 b r) = ∑ f : Fin 512, act (proj 0 x0 x1 x3 x4 x6 x8 b f) (proj 1 x0 x1 x3 x5 x7 x8 b f) * x9 (ix3 (nb (x1 (ix2 b 0))) r f) := by
  frame_open
  simp (disch := decide) only [↓ View.readCov_skip, ↓ View.readCov_cons_toLoadRect, ↓ View.readCov_fill]
  frame_out
  try simp only [read_unread_whole]
  dsimp only [k1_pay39]
  generalize hK : k1_pay37 (F := Ideal) _ _ _ _ _ _ = K
  have hv : ∀ f, K (ix2 b f) = act (proj 0 x0 x1 x3 x4 x6 x8 b f) (proj 1 x0 x1 x3 x5 x7 x8 b f) := fun f => by
    have e := out1_A_10_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 b hc0 hc1 hb f
    frame_out at e
    rw [← hK]
    exact e
  pointwise [k1_pay4, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57]
  simp only [hv, select_eq]
  have e := sum13' hb 0 fun n f => act (proj 0 x0 x1 x3 x4 x6 x8 b f) (proj 1 x0 x1 x3 x5 x7 x8 b f) * x9 (ix3 n r f)
  simp only [zero_add] at e
  exact e

theorem out1_B_10_apply (hc0 : ¬cond1_0 i) (hc1 : ¬cond1_1 i) (xs0 : Vec Ideal S256x64 .f32) (hb : (x1 (ix2 b 0) : BitVec 32).toNat < 13) (f : Fin 512) :
    out1_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 (ix2 b f) = act (proj 0 x0 x1 x3 x4 x6 x8 b f) (proj 1 x0 x1 x3 x5 x7 x8 b f) := by
  frame_out
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37]
  simp only [select_eq]
  exact act_congr
    ((sum13 hb _ fun n r => x3 (ix2 b (⟨r.val, by omega⟩ : Fin 128)) * x8 (ix4 n 0 r f)).trans (proj0_def x0 x1 x3 x4 x6 x8 b f).symm)
    ((sum13 hb _ fun n r => x3 (ix2 b (⟨64 + r.val, by omega⟩ : Fin 128)) * x8 (ix4 n 1 r f)).trans (proj1_def x0 x1 x3 x5 x7 x8 b f).symm)

theorem sout1_B_0_apply (hc0 : ¬cond1_0 i) (hc1 : ¬cond1_1 i) (xs0 : Vec Ideal S256x64 .f32) (hb : (x1 (ix2 b 0) : BitVec 32).toNat < 13) (r : Fin 64) :
    sout1_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 (ix2 b r) = xs0 (ix2 b r) + ∑ f : Fin 512, act (proj 0 x0 x1 x3 x4 x6 x8 b f) (proj 1 x0 x1 x3 x5 x7 x8 b f) * x9 (ix3 (nb (x1 (ix2 b 0))) r f) := by
  frame_open
  simp (disch := decide) only [↓ View.readCov_skip, ↓ View.readCov_cons_toLoadRect, ↓ View.readCov_fill]
  frame_out
  try simp only [read_unread_whole]
  dsimp only [k1_pay39]
  generalize hK : k1_pay37 (F := Ideal) _ _ _ _ _ _ = K
  have hv : ∀ f, K (ix2 b f) = act (proj 0 x0 x1 x3 x4 x6 x8 b f) (proj 1 x0 x1 x3 x5 x7 x8 b f) := fun f => by
    have e := out1_B_10_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 b hc0 hc1 xs0 hb f
    frame_out at e
    rw [← hK]
    exact e
  pointwise [k1_pay4, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57]
  simp only [hv, select_eq]
  exact sum13' hb _ fun n f => act (proj 0 x0 x1 x3 x4 x6 x8 b f) (proj 1 x0 x1 x3 x5 x7 x8 b f) * x9 (ix3 n r f)

theorem out1_C_10_apply (hc0 : ¬cond1_0 i) (hc1 : cond1_1 i) (xs0 : Vec Ideal S256x64 .f32) (hb : (x1 (ix2 b 0) : BitVec 32).toNat < 13) (f : Fin 512) :
    out1_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 (ix2 b f) = act (proj 0 x0 x1 x3 x4 x6 x8 b f) (proj 1 x0 x1 x3 x5 x7 x8 b f) := by
  frame_out
  pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37]
  simp only [select_eq]
  exact act_congr
    ((sum13 hb _ fun n r => x3 (ix2 b (⟨r.val, by omega⟩ : Fin 128)) * x8 (ix4 n 0 r f)).trans (proj0_def x0 x1 x3 x4 x6 x8 b f).symm)
    ((sum13 hb _ fun n r => x3 (ix2 b (⟨64 + r.val, by omega⟩ : Fin 128)) * x8 (ix4 n 1 r f)).trans (proj1_def x0 x1 x3 x5 x7 x8 b f).symm)

theorem sout1_C_0_apply (hc0 : ¬cond1_0 i) (hc1 : cond1_1 i) (xs0 : Vec Ideal S256x64 .f32) (hb : (x1 (ix2 b 0) : BitVec 32).toNat < 13) (r : Fin 64) :
    sout1_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 (ix2 b r) = xs0 (ix2 b r) + ∑ f : Fin 512, act (proj 0 x0 x1 x3 x4 x6 x8 b f) (proj 1 x0 x1 x3 x5 x7 x8 b f) * x9 (ix3 (nb (x1 (ix2 b 0))) r f) := by
  frame_open
  simp (disch := decide) only [↓ View.readCov_skip, ↓ View.readCov_cons_toLoadRect, ↓ View.readCov_fill]
  frame_out
  try simp only [read_unread_whole]
  dsimp only [k1_pay39]
  generalize hK : k1_pay37 (F := Ideal) _ _ _ _ _ _ = K
  have hv : ∀ f, K (ix2 b f) = act (proj 0 x0 x1 x3 x4 x6 x8 b f) (proj 1 x0 x1 x3 x5 x7 x8 b f) := fun f => by
    have e := out1_C_10_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 b hc0 hc1 xs0 hb f
    frame_out at e
    rw [← hK]
    exact e
  pointwise [k1_pay4, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57]
  simp only [hv, select_eq]
  exact sum13' hb _ fun n f => act (proj 0 x0 x1 x3 x4 x6 x8 b f) (proj 1 x0 x1 x3 x5 x7 x8 b f) * x9 (ix3 n r f)

theorem out1_C_11_apply (hc0 : ¬cond1_0 i) (hc1 : cond1_1 i) (xs0 : Vec Ideal S256x64 .f32) (hb : (x1 (ix2 b 0) : BitVec 32).toNat < 13) (r : Fin 64) :
    out1_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 (ix2 b r) = (xs0 (ix2 b r) + ∑ f : Fin 512, act (proj 0 x0 x1 x3 x4 x6 x8 b f) (proj 1 x0 x1 x3 x5 x7 x8 b f) * x9 (ix3 (nb (x1 (ix2 b 0))) r f)) * x2 (ix2 b 0) := by
  frame_open
  simp (disch := decide) only [↓ View.readCov_skip, ↓ View.readCov_cons_toLoadRect, ↓ View.readCov_fill]
  frame_out
  try simp only [read_unread_whole]
  dsimp only [k1_pay39]
  generalize hK : k1_pay37 (F := Ideal) _ _ _ _ _ _ = K
  have hv : ∀ f, K (ix2 b f) = act (proj 0 x0 x1 x3 x4 x6 x8 b f) (proj 1 x0 x1 x3 x5 x7 x8 b f) := fun f => by
    have e := out1_C_10_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 b hc0 hc1 xs0 hb f
    frame_out at e
    rw [← hK]
    exact e
  pointwise [k1_pay4, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57]
  simp only [hv, select_eq]
  exact congrArg (fun a : EReal => a * x2 (ix2 b 0)) (sum13' hb _ fun n f => act (proj 0 x0 x1 x3 x4 x6 x8 b f) (proj 1 x0 x1 x3 x5 x7 x8 b f) * x9 (ix3 n r f))

end Body
end Cert.KernelIdeal.Gen
end
-- ==== Proof.KernelIdeal.Val1.lean ====
/- The second kernel region's results: the hidden activations, and their product with the down projection's first LoRA factor of the adapter that each row names, scaled. -/
module

public import proofs.«01_k».proof.Proof.KernelIdeal.Val1a

@[expose] public section
set_option maxRecDepth 16384
noncomputable section
namespace Cert.KernelIdeal.Gen
open Idealize.ShloMosaic Idealize.ShloMosaic.TcCoe Idealize.ShloMosaic.Tactic
open Idealize.SL Idealize.SL.Sem
open Idealize.ShloMosaic.Pipeline (Dat)
open Cert.Val

/-- Column `F` of half `p` (0 gate, 1 up) of the gate and up projections, among both halves' columns. -/
def wcol (p : Fin 2) (F : Fin 14336) : Fin 28672 := ⟨p.val * 14336 + F.val, by omega⟩

/-- The gate (`p = 0`) or up (`p = 1`) projection of row `b` at feature `F`. -/
def gproj (p : Fin 2) (x : Vec Ideal S256x4096 .bf16) (idx : Vec Ideal S256x1 .i32) (s : Vec Ideal S256x128 .bf16) (W : Vec Ideal S512x28672 .i32) (sw : Vec Ideal S32x28672 .bf16) (B : Vec Ideal S13x2x64x14336 .bf16) (b : Fin 256) (F : Fin 14336) : EReal :=
  (∑ k : Fin 4096, x (ix2 b k) * (nibv (W (ix2 (⟨k.val / 8, by omega⟩ : Fin 512) (wcol p F))) (k.val % 8) * sw (ix2 (⟨k.val / 128, by omega⟩ : Fin 32) (wcol p F))))
    + ∑ r : Fin 64, s (ix2 b (col p r)) * B (ix4 (nb (idx (ix2 b 0))) p r F)

/-- The hidden activation of row `b` at feature `F`. -/
def gact (x : Vec Ideal S256x4096 .bf16) (idx : Vec Ideal S256x1 .i32) (s : Vec Ideal S256x128 .bf16) (W : Vec Ideal S512x28672 .i32) (sw : Vec Ideal S32x28672 .bf16) (B : Vec Ideal S13x2x64x14336 .bf16) (b : Fin 256) (F : Fin 14336) : EReal :=
  act (gproj 0 x idx s W sw B b F) (gproj 1 x idx s W sw B b F)

/-- All hidden activations. -/
def fin1h (x : Vec Ideal S256x4096 .bf16) (idx : Vec Ideal S256x1 .i32) (s : Vec Ideal S256x128 .bf16) (W : Vec Ideal S512x28672 .i32) (sw : Vec Ideal S32x28672 .bf16) (B : Vec Ideal S13x2x64x14336 .bf16) : Vec Ideal S256x14336 .bf16 :=
  fun y => gact x idx s W sw B (y 0) (y 1)

/-- The hidden activations times the down projection's first LoRA factor (given transposed), scaled. -/
def fin1t (h : Vec Ideal S256x14336 .bf16) (idx : Vec Ideal S256x1 .i32) (sc : Vec Ideal S256x1 .f32) (At : Vec Ideal S13x64x14336 .bf16) : Vec Ideal S256x64 .bf16 :=
  fun y => (∑ F : Fin 14336, h (ix2 (y 0 : Fin 256) F) * At (ix3 (nb (idx (ix2 (y 0 : Fin 256) 0))) (y 1 : Fin 64) F)) * sc (ix2 (y 0 : Fin 256) 0)

/-- A block's projection is the whole one at the block's features. -/
theorem proj_block (p : Fin 2) (x : Vec Ideal S256x4096 .bf16) (idx : Vec Ideal S256x1 .i32) (s : Vec Ideal S256x128 .bf16) (W : Vec Ideal S512x28672 .i32) (sw : Vec Ideal S32x28672 .bf16) (B : Vec Ideal S13x2x64x14336 .bf16)
    (x' : Vec Ideal S256x4096 .bf16) (idx' : Vec Ideal S256x1 .i32) (s' : Vec Ideal S256x128 .bf16) (W' : Vec Ideal S512x512 .i32) (sw' : Vec Ideal S32x512 .bf16) (B' : Vec Ideal S13x2x64x512 .bf16)
    (b : Fin 256) (F : Fin 14336) (f : Fin 512) (hx : ∀ k : Fin 4096, x' (ix2 b k) = x (ix2 b k)) (hi : idx' (ix2 b 0) = idx (ix2 b 0)) (hs : ∀ r : Fin 128, s' (ix2 b r) = s (ix2 b r))
    (hW : ∀ k : Fin 512, W' (ix2 k f) = W (ix2 k (wcol p F))) (hsw : ∀ k : Fin 32, sw' (ix2 k f) = sw (ix2 k (wcol p F))) (hB : ∀ (n : Fin 13) (r : Fin 64), B' (ix4 n p r f) = B (ix4 n p r F)) :
    proj p x' idx' s' W' sw' B' b f = gproj p x idx s W sw B b F := by
  unfold proj gproj
  refine congrArg₂ (fun a b : EReal => a + b) (Finset.sum_congr rfl fun k _ => ?_) (Finset.sum_congr rfl fun r _ => ?_)
  · rw [hx, hW, hsw]
  · rw [hs, hi, hB]

variable (V : (c : Dev nD) → (b : Ref sig .tc) → Buf (Elt Ideal) ((c : Thread nD τ).loc b))

theorem wi1_0 : ∀ t : Fin cfg1.N, win1_0.index t 0 = 0 ∧ win1_0.index t 1 = 0 := by decide +kernel
theorem wi1_1 : ∀ t : Fin cfg1.N, win1_1.index t 0 = 0 ∧ win1_1.index t 1 = 0 := by decide +kernel
theorem wi1_2 : ∀ t : Fin cfg1.N, win1_2.index t 0 = 0 ∧ win1_2.index t 1 = 0 := by decide +kernel
theorem wi1_3 : ∀ t : Fin cfg1.N, win1_3.index t 0 = 0 ∧ win1_3.index t 1 = 0 := by decide +kernel
theorem wi1_4 : ∀ t : Fin cfg1.N, win1_4.index t 0 = 0 ∧ win1_4.index t 1 = t.val := by decide +kernel
theorem wi1_5 : ∀ t : Fin cfg1.N, win1_5.index t 0 = 0 ∧ win1_5.index t 1 = t.val + 28 := by decide +kernel
theorem wi1_6 : ∀ t : Fin cfg1.N, win1_6.index t 0 = 0 ∧ win1_6.index t 1 = t.val := by decide +kernel
theorem wi1_7 : ∀ t : Fin cfg1.N, win1_7.index t 0 = 0 ∧ win1_7.index t 1 = t.val + 28 := by decide +kernel
theorem wi1_8 : ∀ t : Fin cfg1.N, win1_8.index t 0 = 0 ∧ win1_8.index t 1 = 0 ∧ win1_8.index t 2 = 0 ∧ win1_8.index t 3 = t.val := by decide +kernel
theorem wi1_9 : ∀ t : Fin cfg1.N, win1_9.index t 0 = 0 ∧ win1_9.index t 1 = 0 ∧ win1_9.index t 2 = t.val := by decide +kernel
theorem wi1_10 : ∀ t : Fin cfg1.N, win1_10.index t 0 = 0 ∧ win1_10.index t 1 = t.val := by decide +kernel
theorem wi1_11 : ∀ t : Fin cfg1.N, win1_11.index t 0 = 0 ∧ win1_11.index t 1 = 0 := by decide +kernel

/-- Feature `f` of block `t` among all. -/
def feat (t : Fin cfg1.N) (f : Fin 512) : Fin 14336 :=
  ⟨t.val * 512 + f.val, by have : t.val < 28 := Nat.lt_of_lt_of_eq t.isLt N_1; omega⟩

theorem blk1_1 (c : Dev nD) (t : Fin cfg1.N) (b : Fin 256) : iblk1 V c 1 t (ix2 b 0) = V c main_v1 (ix2 b 0) := by blk_ext [iblk1, wi1_1 t]
theorem blk1_2 (c : Dev nD) (t : Fin cfg1.N) (b : Fin 256) : iblk1 V c 2 t (ix2 b 0) = V c main_v9 (ix2 b 0) := by blk_ext [iblk1, wi1_2 t]
theorem blk1_9 (c : Dev nD) (t : Fin cfg1.N) (n : Fin 13) (r : Fin 64) (f : Fin 512) : iblk1 V c 9 t (ix3 n r f) = V c main_v11 (ix3 n r (feat t f)) := by
  unfold feat
  blk_ext [iblk1, wi1_9 t]

theorem gate1 (c : Dev nD) (t : Fin cfg1.N) (b : Fin 256) (f : Fin 512) :
    proj 0 (iblk1 V c 0 t) (iblk1 V c 1 t) (iblk1 V c 3 t) (iblk1 V c 4 t) (iblk1 V c 6 t) (iblk1 V c 8 t) b f
      = gproj 0 (V c main_v0) (V c main_v1) (V c main_v10) (V c main_arg2) (V c main_arg3) (V c main_arg7) b (feat t f) := by
  have ht : t.val < 28 := Nat.lt_of_lt_of_eq t.isLt N_1
  refine proj_block _ _ _ _ _ _ _ _ _ _ _ _ _ _ _ _ (fun k => ?_) (blk1_1 V c t b) (fun r => ?_) (fun k => ?_) (fun k => ?_) (fun n r => ?_)
  · blk_ext [iblk1, wi1_0 t]
  · blk_ext [iblk1, wi1_3 t]
  · unfold wcol feat; blk_ext [iblk1, wi1_4 t]
  · unfold wcol feat; blk_ext [iblk1, wi1_6 t]
  · unfold feat; blk_ext [iblk1, wi1_8 t]

theorem up1 (c : Dev nD) (t : Fin cfg1.N) (b : Fin 256) (f : Fin 512) :
    proj 1 (iblk1 V c 0 t) (iblk1 V c 1 t) (iblk1 V c 3 t) (iblk1 V c 5 t) (iblk1 V c 7 t) (iblk1 V c 8 t) b f
      = gproj 1 (V c main_v0) (V c main_v1) (V c main_v10) (V c main_arg2) (V c main_arg3) (V c main_arg7) b (feat t f) := by
  have ht : t.val < 28 := Nat.lt_of_lt_of_eq t.isLt N_1
  refine proj_block _ _ _ _ _ _ _ _ _ _ _ _ _ _ _ _ (fun k => ?_) (blk1_1 V c t b) (fun r => ?_) (fun k => ?_) (fun k => ?_) (fun n r => ?_)
  · blk_ext [iblk1, wi1_0 t]
  · blk_ext [iblk1, wi1_3 t]
  · unfold wcol feat; blk_ext [iblk1, wi1_5 t]
  · unfold wcol feat; blk_ext [iblk1, wi1_7 t]
  · unfold feat; blk_ext [iblk1, wi1_8 t]

/-- The hidden activations the region computes, from the buffers it reads. -/
def hid (c : Dev nD) : Vec Ideal S256x14336 .bf16 := fin1h (V c main_v0) (V c main_v1) (V c main_v10) (V c main_arg2) (V c main_arg3) (V c main_arg7)

theorem act1 (c : Dev nD) (t : Fin cfg1.N) (b : Fin 256) (f : Fin 512) :
    act (proj 0 (iblk1 V c 0 t) (iblk1 V c 1 t) (iblk1 V c 3 t) (iblk1 V c 4 t) (iblk1 V c 6 t) (iblk1 V c 8 t) b f) (proj 1 (iblk1 V c 0 t) (iblk1 V c 1 t) (iblk1 V c 3 t) (iblk1 V c 5 t) (iblk1 V c 7 t) (iblk1 V c 8 t) b f)
      = hid V c (ix2 b (feat t f)) := by
  rw [gate1, up1]
  rfl

theorem idx1 (c : Dev nD) (hI : ∀ b : Fin 256, (V c main_v1 (ix2 b 0) : BitVec 32).toNat < 13) (t : Fin cfg1.N) (b : Fin 256) : (iblk1 V c 1 t (ix2 b 0) : BitVec 32).toNat < 13 := by
  rw [blk1_1]
  exact hI b

theorem outs1_h (c : Dev nD) (hI : ∀ b : Fin 256, (V c main_v1 (ix2 b 0) : BitVec 32).toNat < 13) (t : Fin cfg1.N) (b : Fin 256) (f : Fin 512) :
    (outsAt1 V c t.val t.isLt).1 (ix2 b f) = hid V c (ix2 b (feat t f)) := by
  by_cases h0 : t.val % 28 = 0
  · rw [outsAt1_A V c t h0 (by omega)]
    dsimp only
    rw [out1_A_10_apply (hb := idx1 V c hI t b), act1]
  · by_cases h1 : t.val % 28 = 27
    · rw [outsAt1_C V c t h0 h1]
      dsimp only
      rw [out1_C_10_apply (hb := idx1 V c hI t b), act1]
    · rw [outsAt1_B V c t h0 h1]
      dsimp only
      rw [out1_B_10_apply (hb := idx1 V c hI t b), act1]

theorem final1_h (c : Dev nD) (hI : ∀ b : Fin 256, (V c main_v1 (ix2 b 0) : BitVec 32).toNat < 13) :
    (dat1 V c).arrAt 10 cfg1.N = hid V c := by
  refine (dat1 V c).arrAt_eq_of_covers 10 _ (by decide +kernel) fun t hf y => ?_
  blk_simp
  rw [after1_10]
  obtain ⟨b, d, rfl⟩ : ∃ (b : Fin 256) (d : Fin 512), y = ix2 b d := ⟨y 0, y 1, by idx_ext⟩
  have hy : ((View.whole main_v12_0).slice (win1_10.rect t)).emb (ix2 b d) = ix2 b (feat t d) := by
    unfold feat
    blk_ext [wi1_10 t]
  rw [hy, outs1_h V c hI]

/-- What one block adds to the carried sum of row `b`, column `r`. -/
def term1 (c : Dev nD) (b : Fin 256) (r : Fin 64) (t : Fin cfg1.N) : EReal :=
  ∑ f : Fin 512, (hid V c (ix2 b (feat t f)) : EReal) * (V c main_v11 (ix3 (nb (V c main_v1 (ix2 b 0))) r (feat t f)) : EReal)

theorem term1_eq (c : Dev nD) (b : Fin 256) (r : Fin 64) (t : Fin cfg1.N) :
    (∑ f : Fin 512, act (proj 0 (iblk1 V c 0 t) (iblk1 V c 1 t) (iblk1 V c 3 t) (iblk1 V c 4 t) (iblk1 V c 6 t) (iblk1 V c 8 t) b f) (proj 1 (iblk1 V c 0 t) (iblk1 V c 1 t) (iblk1 V c 3 t) (iblk1 V c 5 t) (iblk1 V c 7 t) (iblk1 V c 8 t) b f)
        * (iblk1 V c 9 t (ix3 (nb (iblk1 V c 1 t (ix2 b 0))) r f) : EReal)) = term1 V c b r t := by
  unfold term1
  refine Finset.sum_congr rfl fun f _ => ?_
  rw [act1, blk1_1, blk1_9]

theorem acc1 (c : Dev nD) (hI : ∀ b : Fin 256, (V c main_v1 (ix2 b 0) : BitVec 32).toNat < 13) (b : Fin 256) (r : Fin 64) (t : Fin cfg1.N) (ht : t.val + 1 = cfg1.N) :
    ((outsAt1 V c t.val t.isLt).2.2 (ix2 b r) : EReal) = ∑ p : Fin cfg1.N, term1 V c b r p := by
  have e := Pipeline.eq_sum_fin_of_reset_step_last (fun n h => ((outsAt1 V c n h).2.2 (ix2 b r) : EReal)) 28 0 (term1 V c b r)
    (fun t h0 => by
      rw [outsAt1_A V c t h0 (by omega), zero_add]
      dsimp only
      rw [sout1_A_0_apply (hb := idx1 V c hI t b)]
      exact term1_eq V c b r t)
    (fun t h0 => by
      by_cases h1 : t.val % 28 = 27
      · rw [outsAt1_C V c t h0 h1]
        dsimp only
        rw [sout1_C_0_apply (hb := idx1 V c hI t b)]
        exact congrArg₂ (fun a b : EReal => a + b) rfl (term1_eq V c b r t)
      · rw [outsAt1_B V c t h0 h1]
        dsimp only
        rw [sout1_B_0_apply (hb := idx1 V c hI t b)]
        exact congrArg₂ (fun a b : EReal => a + b) rfl (term1_eq V c b r t))
    (le_of_eq N_1) t ht
  rw [zero_add] at e
  exact e

theorem outs1_t (c : Dev nD) (hI : ∀ b : Fin 256, (V c main_v1 (ix2 b 0) : BitVec 32).toNat < 13) (b : Fin 256) (r : Fin 64) (t : Fin cfg1.N) (h : t.val % 28 = 27) :
    ((outsAt1 V c t.val t.isLt).2.1 (ix2 b r) : EReal) = ((outsAt1 V c t.val t.isLt).2.2 (ix2 b r) : EReal) * (V c main_v9 (ix2 b 0) : EReal) := by
  rw [outsAt1_C V c t (by omega) h]
  dsimp only
  rw [out1_C_11_apply (hb := idx1 V c hI t b), sout1_C_0_apply (hb := idx1 V c hI t b), blk1_2]

/-- The last block. -/
def t1_27 : Fin cfg1.N := ⟨27, by rw [show cfg1.N = 28 from N_1]; omega⟩

theorem final1_t (c : Dev nD) (hI : ∀ b : Fin 256, (V c main_v1 (ix2 b 0) : BitVec 32).toNat < 13) :
    (dat1 V c).arrAt 11 cfg1.N = fin1t (hid V c) (V c main_v1) (V c main_v9) (V c main_v11) := by
  refine (dat1 V c).arrAt_eq_of_after_last 11 t1_27 (by decide +kernel) _ fun j => ?_
  blk_simp
  obtain ⟨b, r, rfl⟩ : ∃ (b : Fin 256) (r : Fin 64), j = ix2 b r := ⟨j 0, j 1, by idx_ext⟩
  rw [after1_11, outs1_t V c hI b r t1_27 (by decide), acc1 V c hI b r t1_27 N_1.symm]
  exact congrArg (fun a : EReal => a * (V c main_v9 (ix2 b 0) : EReal))
    (Fin.sum_mul_add_congr (f := fun F : Fin 14336 => (hid V c (ix2 b F) : EReal) * (V c main_v11 (ix3 (nb (V c main_v1 (ix2 b 0))) r F) : EReal)) fun _ _ _ => rfl)
end Cert.KernelIdeal.Gen
end
-- ==== Proof.KernelIdeal.Val2.lean ====
/- The third kernel region's result: the down projection of the hidden activations plus the second LoRA factor's share. -/
module

public import proofs.«01_k».proof.Proof.KernelIdeal.Region2
public import proofs.«01_k».proof.Proof.KernelIdeal.Words
public import Idealize.ShloMosaic.Lib.Pipeline.ReadBack

@[expose] public section
set_option maxRecDepth 16384
noncomputable section
namespace Cert.KernelIdeal.Gen
open Idealize.ShloMosaic Idealize.ShloMosaic.TcCoe Idealize.ShloMosaic.Tactic
open Idealize.SL Idealize.SL.Sem
open Idealize.ShloMosaic.Pipeline (Dat)
open Cert.Val

variable (V : (c : Dev nD) → (b : Ref sig .tc) → Buf (Elt Ideal) ((c : Thread nD τ).loc b))

theorem wi2_0 : ∀ t : Fin cfg2.N, win2_0.index t 0 = 0 ∧ win2_0.index t 1 = 0 := by decide +kernel
theorem wi2_1 : ∀ t : Fin cfg2.N, win2_1.index t 0 = 0 ∧ win2_1.index t 1 = 0 := by decide +kernel
theorem wi2_2 : ∀ t : Fin cfg2.N, win2_2.index t 0 = 0 ∧ win2_2.index t 1 = 0 := by decide +kernel
theorem wi2_3 : ∀ t : Fin cfg2.N, win2_3.index t 0 = 0 ∧ win2_3.index t 1 = t.val := by decide +kernel
theorem wi2_4 : ∀ t : Fin cfg2.N, win2_4.index t 0 = 0 ∧ win2_4.index t 1 = t.val := by decide +kernel
theorem wi2_5 : ∀ t : Fin cfg2.N, win2_5.index t 0 = 0 ∧ win2_5.index t 1 = 0 ∧ win2_5.index t 2 = t.val := by decide +kernel
theorem wi2_6 : ∀ t : Fin cfg2.N, win2_6.index t 0 = 0 ∧ win2_6.index t 1 = t.val := by decide +kernel

/-- The third region's result at row `b`, column `d`. -/
def fin2 (h : Vec Ideal S256x14336 .bf16) (idx : Vec Ideal S256x1 .i32) (t : Vec Ideal S256x64 .bf16) (W : Vec Ideal S1792x4096 .i32) (sw : Vec Ideal S112x4096 .bf16) (B : Vec Ideal S13x64x4096 .bf16) : Vec Ideal S256x4096 .bf16 :=
  fun y => (∑ f : Fin 14336, h (ix2 (y 0 : Fin 256) f) * (nibv (W (ix2 (⟨f.val / 8, by omega⟩ : Fin 1792) (y 1 : Fin 4096))) (f.val % 8) * sw (ix2 (⟨f.val / 128, by omega⟩ : Fin 112) (y 1 : Fin 4096))))
    + ∑ r : Fin 64, t (ix2 (y 0 : Fin 256) r) * B (ix3 (nb (idx (ix2 (y 0 : Fin 256) 0))) r (y 1 : Fin 4096))

/-- What the body leaves at row `b`, column `d` of its output block, over its input blocks. -/
theorem out2_6_apply (x0 : Vec Ideal S256x14336 .bf16) (x1 : Vec Ideal S256x1 .i32) (x2 : Vec Ideal S256x64 .bf16) (x3 : Vec Ideal S1792x256 .i32) (x4 : Vec Ideal S112x256 .bf16) (x5 : Vec Ideal S13x64x256 .bf16)
    (b : Fin 256) (d : Fin 256) (hb : (x1 (ix2 b 0) : BitVec 32).toNat < 13) :
    out2_6 x0 x1 x2 x3 x4 x5 (ix2 b d)
      = (∑ f : Fin 14336, x0 (ix2 b f) * (nibv (x3 (ix2 (⟨f.val / 8, by omega⟩ : Fin 1792) d)) (f.val % 8) * x4 (ix2 (⟨f.val / 128, by omega⟩ : Fin 112) d)))
        + ∑ r : Fin 64, x2 (ix2 b r) * x5 (ix3 (nb (x1 (ix2 b 0))) r d) := by
  frame_out
  pointwise [k2_pay1, k2_pay2, k2_pay3, k2_pay4, k2_pay5, k2_pay6, k2_pay7, k2_pay8, k2_pay9, k2_pay10, k2_pay11, k2_pay12, k2_pay13, k2_pay14]
  simp only [select_eq]
  exact sum13 hb _ fun n r => x2 (ix2 b r) * x5 (ix3 n r d)

theorem fin2_apply (h : Vec Ideal S256x14336 .bf16) (idx : Vec Ideal S256x1 .i32) (t : Vec Ideal S256x64 .bf16) (W : Vec Ideal S1792x4096 .i32) (sw : Vec Ideal S112x4096 .bf16) (B : Vec Ideal S13x64x4096 .bf16) (b : Fin 256) (d : Fin 4096) :
    fin2 h idx t W sw B (ix2 b d) = (∑ f : Fin 14336, h (ix2 b f) * (nibv (W (ix2 (⟨f.val / 8, by omega⟩ : Fin 1792) d)) (f.val % 8) * sw (ix2 (⟨f.val / 128, by omega⟩ : Fin 112) d)))
    + ∑ r : Fin 64, t (ix2 b r) * B (ix3 (nb (idx (ix2 b 0))) r d) := rfl

theorem final2 (c : Dev nD) (hI : ∀ b : Fin 256, (V c main_v1 (ix2 b 0) : BitVec 32).toNat < 13) :
    (dat2 V c).arrAt 6 cfg2.N = fin2 (V c main_v12_0) (V c main_v1) (V c main_v12_1) (V c main_arg4) (V c main_arg5) (V c main_arg9) := by
  refine (dat2 V c).arrAt_eq_of_covers 6 _ (by decide +kernel) fun t hf y => ?_
  blk_simp
  rw [after2_6]
  obtain ⟨b, d, rfl⟩ : ∃ (b : Fin 256) (d : Fin 256), y = ix2 b d := ⟨y 0, y 1, by idx_ext⟩
  have ht : t.val < 16 := Nat.lt_of_lt_of_eq t.isLt N_2
  have hb := hI b
  have hy : ((View.whole main_v13).slice (win2_6.rect t)).emb (ix2 b d) = ix2 b (⟨t.val * 256 + d.val, by omega⟩ : Fin 4096) := by blk_ext [wi2_6 t]
  have h0 : ∀ f : Fin 14336, iblk2 V c 0 t (ix2 b f) = V c main_v12_0 (ix2 b f) := fun f => by blk_ext [iblk2, wi2_0 t]
  have h1 : iblk2 V c 1 t (ix2 b 0) = V c main_v1 (ix2 b 0) := by blk_ext [iblk2, wi2_1 t]
  have h2 : ∀ r : Fin 64, iblk2 V c 2 t (ix2 b r) = V c main_v12_1 (ix2 b r) := fun r => by blk_ext [iblk2, wi2_2 t]
  have h3 : ∀ k : Fin 1792, iblk2 V c 3 t (ix2 k d) = V c main_arg4 (ix2 k (⟨t.val * 256 + d.val, by omega⟩ : Fin 4096)) := fun k => by blk_ext [iblk2, wi2_3 t]
  have h4 : ∀ k : Fin 112, iblk2 V c 4 t (ix2 k d) = V c main_arg5 (ix2 k (⟨t.val * 256 + d.val, by omega⟩ : Fin 4096)) := fun k => by blk_ext [iblk2, wi2_4 t]
  have h5 : ∀ (n : Fin 13) (r : Fin 64), iblk2 V c 5 t (ix3 n r d) = V c main_arg9 (ix3 n r (⟨t.val * 256 + d.val, by omega⟩ : Fin 4096)) := fun n r => by blk_ext [iblk2, wi2_5 t]
  rw [hy, out2_6_apply _ _ _ _ _ _ b d (by rw [h1]; exact hb), h1]
  rw [fin2_apply]
  refine congrArg₂ (fun a b : EReal => a + b) (Finset.sum_congr rfl fun f _ => ?_) (Finset.sum_congr rfl fun r _ => ?_)
  · rw [h0, h3, h4]
  · rw [h2, h5]
end Cert.KernelIdeal.Gen
end
-- ==== Proof.Ref.RefFin.lean ====
/- The reference's results are the kernel's formulas at the kernel's own operands. -/
module

public import proofs.«01_k».proof.Proof.Ref.RefVal
public import proofs.«01_k».proof.Proof.KernelIdeal.Val0
public import proofs.«01_k».proof.Proof.KernelIdeal.Val1
public import proofs.«01_k».proof.Proof.KernelIdeal.Val2

@[expose] public section
set_option maxRecDepth 16384
noncomputable section
namespace Cert.Meet
open Idealize.ShloMosaic Idealize.ShloMosaic.Tactic
open Cert.Val Cert.ReferenceIdeal Cert.ReferenceIdeal.Read
open Cert.KernelIdeal.Gen (fin0 dot0 fin1h fin1t fin2 gproj gact act col wcol)

variable (x0 : Vec Ideal S256x1x4096 .bf16) (x1 : Vec Ideal S256 .i32) (x2 : Vec Ideal S512x28672 .i32) (x3 : Vec Ideal S32x28672 .bf16) (x4 : Vec Ideal S1792x4096 .i32) (x5 : Vec Ideal S112x4096 .bf16) (x6 : Vec Ideal S13x4096x128 .bf16) (x7 : Vec Ideal S13x2x64x14336 .bf16) (x8 : Vec Ideal S13x14336x64 .bf16) (x9 : Vec Ideal S13x64x4096 .bf16) (x10 : Vec Ideal S13 .f32)
  (X : Vec Ideal Cert.KernelIdeal.S256x4096 .bf16) (I : Vec Ideal Cert.KernelIdeal.S256x1 .i32) (SC : Vec Ideal Cert.KernelIdeal.S256x1 .f32) (At : Vec Ideal Cert.KernelIdeal.S13x64x14336 .bf16)

theorem v39_fin (hX : ∀ (b : Fin 256) (k : Fin 4096), X (ix2 b k) = x0 (ix3 b 0 k)) (hI : ∀ b : Fin 256, I (ix2 b 0) = x1 (ix1 b))
    (hSC : ∀ b : Fin 256, SC (ix2 b 0) = x10 (ix1 (nb (x1 (ix1 b))))) (b : Fin 256) (r : Fin 128) (hb : (x1 (ix1 b) : BitVec 32).toNat < 13) :
    val_main_v39 (F := Ideal) x0 x1 x6 x10 (ix2 b r) = fin0 X I SC x6 (ix2 b r) := by
  rw [v39_at x0 x1 x6 x10 b r hb]
  show _ = (∑ k : Fin 4096, X (ix2 b k) * x6 (ix3 (nb (I (ix2 b 0))) k r)) * SC (ix2 b 0)
  rw [hSC, hI]
  simp only [hX]

theorem v48_fin (hX : ∀ (b : Fin 256) (k : Fin 4096), X (ix2 b k) = x0 (ix3 b 0 k)) (hI : ∀ b : Fin 256, I (ix2 b 0) = x1 (ix1 b))
    (hSC : ∀ b : Fin 256, SC (ix2 b 0) = x10 (ix1 (nb (x1 (ix1 b))))) (p : Fin 2) (b : Fin 256) (F : Fin 14336) (hb : (x1 (ix1 b) : BitVec 32).toNat < 13) :
    val_main_v48 (F := Ideal) x0 x1 x2 x3 x6 x7 x10 (ix3 b p F) = gproj p X I (fin0 X I SC x6) x2 x3 x7 b F := by
  have hc : ∀ r : Fin 64, (⟨p.val * 64 + r.val, by omega⟩ : Fin 128) = col p r := by
    intro r
    match p with
    | 0 => exact Fin.ext (by simp [col])
    | 1 => exact Fin.ext (by simp [col])
  rw [v48_at, v45_at x0 x1 x6 x7 x10 p F b hb, v32_at]
  show _ = (∑ k : Fin 4096, X (ix2 b k) * (nibv (x2 (ix2 (⟨k.val / 8, by omega⟩ : Fin 512) (wcol p F))) (k.val % 8) * x3 (ix2 (⟨k.val / 128, by omega⟩ : Fin 32) (wcol p F))))
    + ∑ r : Fin 64, fin0 X I SC x6 (ix2 b (col p r)) * x7 (ix4 (nb (I (ix2 b 0))) p r F)
  rw [hI]
  simp only [hX, hc, v39_fin x0 x1 x6 x10 X I SC hX hI hSC b _ hb]
  rfl

theorem v61_fin (hX : ∀ (b : Fin 256) (k : Fin 4096), X (ix2 b k) = x0 (ix3 b 0 k)) (hI : ∀ b : Fin 256, I (ix2 b 0) = x1 (ix1 b))
    (hSC : ∀ b : Fin 256, SC (ix2 b 0) = x10 (ix1 (nb (x1 (ix1 b))))) (b : Fin 256) (F : Fin 14336) (hb : (x1 (ix1 b) : BitVec 32).toNat < 13) :
    val_main_v61 (F := Ideal) x0 x1 x2 x3 x6 x7 x10 (ix2 b F) = fin1h X I (fin0 X I SC x6) x2 x3 x7 (ix2 b F) := by
  rw [v61_at, v48_fin x0 x1 x2 x3 x6 x7 x10 X I SC hX hI hSC 0 b F hb, v48_fin x0 x1 x2 x3 x6 x7 x10 X I SC hX hI hSC 1 b F hb]
  rfl

theorem v90_fin (hX : ∀ (b : Fin 256) (k : Fin 4096), X (ix2 b k) = x0 (ix3 b 0 k)) (hI : ∀ b : Fin 256, I (ix2 b 0) = x1 (ix1 b))
    (hSC : ∀ b : Fin 256, SC (ix2 b 0) = x10 (ix1 (nb (x1 (ix1 b))))) (hAt : ∀ (n : Fin 13) (r : Fin 64) (F : Fin 14336), At (ix3 n r F) = x8 (ix3 n F r))
    (b : Fin 256) (r : Fin 64) (hb : (x1 (ix1 b) : BitVec 32).toNat < 13) :
    val_main_v90 (F := Ideal) x0 x1 x2 x3 x6 x7 x8 x10 (ix2 b r) = fin1t (fin1h X I (fin0 X I SC x6) x2 x3 x7) I SC At (ix2 b r) := by
  rw [v90_at x0 x1 x2 x3 x6 x7 x8 x10 b r hb]
  show _ = (∑ F : Fin 14336, fin1h X I (fin0 X I SC x6) x2 x3 x7 (ix2 b F) * At (ix3 (nb (I (ix2 b 0))) r F)) * SC (ix2 b 0)
  rw [hSC, hI]
  simp only [hAt, v61_fin x0 x1 x2 x3 x6 x7 x10 X I SC hX hI hSC b _ hb]

theorem v98_fin (hX : ∀ (b : Fin 256) (k : Fin 4096), X (ix2 b k) = x0 (ix3 b 0 k)) (hI : ∀ b : Fin 256, I (ix2 b 0) = x1 (ix1 b))
    (hSC : ∀ b : Fin 256, SC (ix2 b 0) = x10 (ix1 (nb (x1 (ix1 b))))) (hAt : ∀ (n : Fin 13) (r : Fin 64) (F : Fin 14336), At (ix3 n r F) = x8 (ix3 n F r))
    (b : Fin 256) (d : Fin 4096) (hb : (x1 (ix1 b) : BitVec 32).toNat < 13) :
    val_main_v98 (F := Ideal) x0 x1 x2 x3 x4 x5 x6 x7 x8 x9 x10 (ix2 b d) = fin2 (fin1h X I (fin0 X I SC x6) x2 x3 x7) I (fin1t (fin1h X I (fin0 X I SC x6) x2 x3 x7) I SC At) x4 x5 x9 (ix2 b d) := by
  rw [v98_at, v83_at, v96_at x0 x1 x2 x3 x6 x7 x8 x9 x10 b d hb]
  show _ = (∑ f : Fin 14336, fin1h X I (fin0 X I SC x6) x2 x3 x7 (ix2 b f) * (nibv (x4 (ix2 (⟨f.val / 8, by omega⟩ : Fin 1792) d)) (f.val % 8) * x5 (ix2 (⟨f.val / 128, by omega⟩ : Fin 112) d)))
    + ∑ r : Fin 64, fin1t (fin1h X I (fin0 X I SC x6) x2 x3 x7) I SC At (ix2 b r) * x9 (ix3 (nb (I (ix2 b 0))) r d)
  rw [hI]
  simp only [v61_fin x0 x1 x2 x3 x6 x7 x10 X I SC hX hI hSC b _ hb, v90_fin x0 x1 x2 x3 x6 x7 x8 x10 X I SC At hX hI hSC hAt b _ hb]

theorem v99_at' (b : Fin 256) (d : Fin 4096) :
    val_main_v99 (F := Ideal) x0 x1 x2 x3 x4 x5 x6 x7 x8 x9 x10 (ix3 b 0 d) = val_main_v98 (F := Ideal) x0 x1 x2 x3 x4 x5 x6 x7 x8 x9 x10 (ix2 b d) := by
  pointwise [val_main_v99]

theorem v100_at' (b : Fin 256) (F : Fin 14336) :
    val_main_v100 (F := Ideal) x0 x1 x2 x3 x6 x7 x10 (ix3 b 0 F) = val_main_v61 (F := Ideal) x0 x1 x2 x3 x6 x7 x10 (ix2 b F) := by
  pointwise [val_main_v100]

end Cert.Meet
end
-- ==== Proof.KernelIdeal.HostVal.lean ====
/- What the host operations around the regions leave, read at an index. -/
module

public import proofs.«01_k».proof.Proof.KernelIdeal.Frame
public import proofs.«01_k».proof.Proof.Ref.Gather
public import Idealize.ShloMosaic.Lib.Pointwise

@[expose] public section
set_option maxRecDepth 16384
noncomputable section
namespace Cert.KernelIdeal.Gen
open Idealize.ShloMosaic Idealize.ShloMosaic.TcCoe Idealize.ShloMosaic.Tactic Idealize.ShloMosaic.StableHlo
open Cert.Val

variable (m : (ℓ : Loc nD τ sig) → Buf (Elt Ideal) ℓ) (ρ : Dev nD → PrngReg)

theorem W1_v0 (c : Dev nD) : W1 m ρ c (Proc.devRef .tc main_v0) = shapeCast S256x4096 (m ((c : Thread nD τ).loc main_arg0)) shapeCasts_S256x1x4096_S256x4096 := by
  show StableHlo.after hostOps0 _ (Proc.devRef .tc main_v0) = _
  after_results
  rfl

theorem W1_v1 (c : Dev nD) : W1 m ρ c (Proc.devRef .tc main_v1) = shapeCast S256x1 (m ((c : Thread nD τ).loc main_arg1)) shapeCasts_S256_S256x1 := by
  show StableHlo.after hostOps0 _ (Proc.devRef .tc main_v1) = _
  after_results
  rfl

/-- The wrapped adapter of a row: a negative index counts from the end. -/
def wrapped (x1 : Vec Ideal S256 .i32) : Vec Ideal S256 .i32 :=
  select (cmpi .slt x1 (broadcastInDim S256 ![] bcast_S_S256 (constantI S_ 32 0#32))) (addi x1 (broadcastInDim S256 ![] bcast_S_S256 (constantI S_ 32 13#32))) x1

theorem W1_v9 (c : Dev nD) : W1 m ρ c (Proc.devRef .tc main_v9) = shapeCast S256x1 (Host.gather gather_S13_S256x1_S256_n_0_n_n_0_1_1 (m ((c : Thread nD τ).loc main_arg10)) (broadcastInDim S256x1 ![0] bcast_S256_S256x1_0 (wrapped (m ((c : Thread nD τ).loc main_arg1))))) shapeCasts_S256_S256x1 := by
  show StableHlo.after hostOps0 _ (Proc.devRef .tc main_v9) = _
  after_results
  rfl

theorem W3_v11 (c : Dev nD) : W3 m ρ c (Proc.devRef .tc main_v11) = transpose S13x64x14336 [0, 2, 1] (W2 m ρ c (Proc.devRef .tc main_arg8)) transposes_S13x14336x64_S13x64x14336_0_2_1 := by
  show StableHlo.after hostOps1 _ (Proc.devRef .tc main_v11) = _
  after_results

theorem W6_v14 (c : Dev nD) : W6 m ρ c (Proc.devRef .tc main_v14) = shapeCast S256x1x4096 (W5 m ρ c (Proc.devRef .tc main_v13)) shapeCasts_S256x4096_S256x1x4096 := by
  show StableHlo.after hostOps3 _ (Proc.devRef .tc main_v14) = _
  after_results
  rfl

theorem W6_v15 (c : Dev nD) : W6 m ρ c (Proc.devRef .tc main_v15) = shapeCast S256x1x14336 (W5 m ρ c (Proc.devRef .tc main_v12_0)) shapeCasts_S256x14336_S256x1x14336 := by
  show StableHlo.after hostOps3 _ (Proc.devRef .tc main_v15) = _
  after_results
  rfl

theorem cast_x (x : Vec Ideal S256x1x4096 .bf16) (b : Fin 256) (k : Fin 4096) : shapeCast S256x4096 x shapeCasts_S256x1x4096_S256x4096 (ix2 b k) = x (ix3 b 0 k) := by
  pointwise []
theorem cast_idx (x : Vec Ideal S256 .i32) (b : Fin 256) : shapeCast S256x1 x shapeCasts_S256_S256x1 (ix2 b 0) = x (ix1 b) := by
  pointwise []
theorem cast_sc (x : Vec Ideal S256 .f32) (b : Fin 256) : shapeCast S256x1 x shapeCasts_S256_S256x1 (ix2 b 0) = x (ix1 b) := by
  pointwise []
theorem cast_out (x : Vec Ideal S256x4096 .bf16) (b : Fin 256) (k : Fin 4096) : shapeCast S256x1x4096 x shapeCasts_S256x4096_S256x1x4096 (ix3 b 0 k) = x (ix2 b k) := by
  pointwise []
theorem cast_h (x : Vec Ideal S256x14336 .bf16) (b : Fin 256) (k : Fin 14336) : shapeCast S256x1x14336 x shapeCasts_S256x14336_S256x1x14336 (ix3 b 0 k) = x (ix2 b k) := by
  pointwise []
theorem trans_a (x : Vec Ideal S13x14336x64 .bf16) (n : Fin 13) (r : Fin 64) (k : Fin 14336) : transpose S13x64x14336 [0, 2, 1] x transposes_S13x14336x64_S13x64x14336_0_2_1 (ix3 n r k) = x (ix3 n k r) := by
  pointwise []
theorem wrapped_at (x1 : Vec Ideal S256 .i32) (b : Fin 256) (hb : (x1 (ix1 b) : BitVec 32).toNat < 13) : broadcastInDim S256x1 ![0] bcast_S256_S256x1_0 (wrapped x1) (ix2 b 0) = x1 (ix1 b) := by
  pointwise [wrapped]
  exact wrap_eq hb
theorem gather_sc (x10 : Vec Ideal S13 .f32) (i : Vec Ideal S256x1 .i32) (b : Fin 256) :
    Host.gather gather_S13_S256x1_S256_n_0_n_n_0_1_1 x10 i (ix1 b) = x10 (ix1 (⟨min (i (ix2 b 0) : BitVec 32).toInt.toNat 12, clamp_lt _⟩ : Fin 13)) :=
  gather_table gather_S13_S256x1_S256_n_0_n_n_0_1_1.wf x10 i b
theorem sc_at (x1 : Vec Ideal S256 .i32) (x10 : Vec Ideal S13 .f32) (b : Fin 256) (hb : (x1 (ix1 b) : BitVec 32).toNat < 13) :
    shapeCast S256x1 (Host.gather gather_S13_S256x1_S256_n_0_n_n_0_1_1 x10 (broadcastInDim S256x1 ![0] bcast_S256_S256x1_0 (wrapped x1))) shapeCasts_S256_S256x1 (ix2 b 0) = x10 (ix1 (nb (x1 (ix1 b)))) := by
  refine (cast_sc _ b).trans ?_
  rw [gather_sc]
  exact congrArg (fun n => x10 (ix1 n)) (by rw [← clamp_eq hb]; simp only [wrapped_at x1 b hb])

end Cert.KernelIdeal.Gen
end
-- ==== Proof.KernelIdeal.Results.lean ====
/- The kernel's results as formulas over its arguments. -/
module

public import proofs.«01_k».proof.Proof.KernelIdeal.HostVal
public import proofs.«01_k».proof.Proof.KernelIdeal.Val0
public import proofs.«01_k».proof.Proof.KernelIdeal.Val1
public import proofs.«01_k».proof.Proof.KernelIdeal.Val2

@[expose] public section
set_option maxRecDepth 16384
noncomputable section
namespace Cert.KernelIdeal.Gen
open Idealize.ShloMosaic Idealize.ShloMosaic.TcCoe Idealize.ShloMosaic.Tactic
open Cert.Val

variable (m : (ℓ : Loc nD τ sig) → Buf (Elt Ideal) ℓ) (ρ : Dev nD → PrngReg) (c : Dev nD)

/-- The rows, the adapters, the scalings and the transposed factor that the regions read. -/
def kX : Vec Ideal S256x4096 .bf16 := W1 m ρ c (Proc.devRef .tc main_v0)
def kI : Vec Ideal S256x1 .i32 := W1 m ρ c (Proc.devRef .tc main_v1)
def kSC : Vec Ideal S256x1 .f32 := W1 m ρ c (Proc.devRef .tc main_v9)
def kAt : Vec Ideal S13x64x14336 .bf16 := W3 m ρ c (Proc.devRef .tc main_v11)
/-- The four results, before the last reshapes. -/
def kS : Vec Ideal S256x128 .bf16 := fin0 (kX m ρ c) (kI m ρ c) (kSC m ρ c) (m ((c : Thread nD τ).loc main_arg6))
def kH : Vec Ideal S256x14336 .bf16 := fin1h (kX m ρ c) (kI m ρ c) (kS m ρ c) (m ((c : Thread nD τ).loc main_arg2)) (m ((c : Thread nD τ).loc main_arg3)) (m ((c : Thread nD τ).loc main_arg7))
def kT : Vec Ideal S256x64 .bf16 := fin1t (kH m ρ c) (kI m ρ c) (kSC m ρ c) (kAt m ρ c)
def kO : Vec Ideal S256x4096 .bf16 := fin2 (kH m ρ c) (kI m ρ c) (kT m ρ c) (m ((c : Thread nD τ).loc main_arg4)) (m ((c : Thread nD τ).loc main_arg5)) (m ((c : Thread nD τ).loc main_arg9))

theorem kX_at (b : Fin 256) (k : Fin 4096) : kX m ρ c (ix2 b k) = (m ((c : Thread nD τ).loc main_arg0) : Vec Ideal S256x1x4096 .bf16) (ix3 b 0 k) := by
  unfold kX; rw [W1_v0]; exact cast_x _ b k
theorem kI_at (b : Fin 256) : kI m ρ c (ix2 b 0) = (m ((c : Thread nD τ).loc main_arg1) : Vec Ideal S256 .i32) (ix1 b) := by
  unfold kI; rw [W1_v1]; exact cast_idx _ b
theorem kSC_at (b : Fin 256) (hb : ((m ((c : Thread nD τ).loc main_arg1) : Vec Ideal S256 .i32) (ix1 b) : BitVec 32).toNat < 13) :
    kSC m ρ c (ix2 b 0) = (m ((c : Thread nD τ).loc main_arg10) : Vec Ideal S13 .f32) (ix1 (nb ((m ((c : Thread nD τ).loc main_arg1) : Vec Ideal S256 .i32) (ix1 b)))) := by
  unfold kSC; rw [W1_v9]; exact sc_at _ _ b hb
theorem kAt_at (n : Fin 13) (r : Fin 64) (F : Fin 14336) : kAt m ρ c (ix3 n r F) = (m ((c : Thread nD τ).loc main_arg8) : Vec Ideal S13x14336x64 .bf16) (ix3 n F r) := by
  unfold kAt; rw [W3_v11, W2_args m ρ c main_arg8 (by decide)]; exact trans_a _ n r F

theorem W3_v0 : W3 m ρ c (Proc.devRef .tc main_v0) = kX m ρ c :=
  (W3_of m ρ c main_v0 (by decide)).trans (W2_of m ρ c main_v0 (by decide +kernel))
theorem W3_v1 : W3 m ρ c (Proc.devRef .tc main_v1) = kI m ρ c :=
  (W3_of m ρ c main_v1 (by decide)).trans (W2_of m ρ c main_v1 (by decide +kernel))
theorem W3_v9 : W3 m ρ c (Proc.devRef .tc main_v9) = kSC m ρ c :=
  (W3_of m ρ c main_v9 (by decide)).trans (W2_of m ρ c main_v9 (by decide +kernel))
theorem W4_v1 : W4 m ρ c (Proc.devRef .tc main_v1) = kI m ρ c :=
  (W4_of m ρ c main_v1 (by decide +kernel)).trans (W3_v1 m ρ c)

variable (hb : ∀ b : Fin 256, ((m ((c : Thread nD τ).loc main_arg1) : Vec Ideal S256 .i32) (ix1 b) : BitVec 32).toNat < 13)
include hb

theorem kI_lt (b : Fin 256) : (kI m ρ c (ix2 b 0) : BitVec 32).toNat < 13 := by
  rw [kI_at]; exact hb b

theorem W2_v10 : W2 m ρ c (Proc.devRef .tc main_v10) = kS m ρ c := by
  refine (W2_arr m ρ c 4).trans ((final0 (V1 m ρ) c (kI_lt m ρ c hb)).trans ?_)
  show fin0 (kX m ρ c) (kI m ρ c) (kSC m ρ c) (W1 m ρ c (Proc.devRef .tc main_arg6)) = _
  rw [W1_args m ρ c main_arg6 (by decide)]
  rfl

theorem W3_v10 : W3 m ρ c (Proc.devRef .tc main_v10) = kS m ρ c :=
  (W3_of m ρ c main_v10 (by decide)).trans (W2_v10 m ρ c hb)

theorem hI3 (b : Fin 256) : ((V3 m ρ c main_v1 : Vec Ideal S256x1 .i32) (ix2 b 0) : BitVec 32).toNat < 13 := by
  show ((W3 m ρ c (Proc.devRef .tc main_v1) : Vec Ideal S256x1 .i32) (ix2 b 0) : BitVec 32).toNat < 13
  rw [W3_v1]; exact kI_lt m ρ c hb b

theorem hid3 : hid (V3 m ρ) c = kH m ρ c := by
  show fin1h (W3 m ρ c (Proc.devRef .tc main_v0)) (W3 m ρ c (Proc.devRef .tc main_v1)) (W3 m ρ c (Proc.devRef .tc main_v10)) (W3 m ρ c (Proc.devRef .tc main_arg2)) (W3 m ρ c (Proc.devRef .tc main_arg3)) (W3 m ρ c (Proc.devRef .tc main_arg7)) = _
  rw [W3_v0, W3_v1, W3_v10 m ρ c hb, W3_args m ρ c main_arg2 (by decide), W3_args m ρ c main_arg3 (by decide), W3_args m ρ c main_arg7 (by decide)]
  rfl

theorem W4_v12_0 : W4 m ρ c (Proc.devRef .tc main_v12_0) = kH m ρ c :=
  (W4_arr m ρ c 10).trans ((final1_h (V3 m ρ) c (hI3 m ρ c hb)).trans (hid3 m ρ c hb))

theorem W4_v12_1 : W4 m ρ c (Proc.devRef .tc main_v12_1) = kT m ρ c := by
  refine (W4_arr m ρ c 11).trans ((final1_t (V3 m ρ) c (hI3 m ρ c hb)).trans ?_)
  show fin1t (hid (V3 m ρ) c) (W3 m ρ c (Proc.devRef .tc main_v1)) (W3 m ρ c (Proc.devRef .tc main_v9)) (kAt m ρ c) = _
  rw [hid3 m ρ c hb, W3_v1, W3_v9]
  rfl

theorem hI4 (b : Fin 256) : ((V4 m ρ c main_v1 : Vec Ideal S256x1 .i32) (ix2 b 0) : BitVec 32).toNat < 13 := by
  show ((W4 m ρ c (Proc.devRef .tc main_v1) : Vec Ideal S256x1 .i32) (ix2 b 0) : BitVec 32).toNat < 13
  rw [W4_v1]; exact kI_lt m ρ c hb b

theorem W5_v13 : W5 m ρ c (Proc.devRef .tc main_v13) = kO m ρ c := by
  refine (W5_arr m ρ c 6).trans ((final2 (V4 m ρ) c (hI4 m ρ c hb)).trans ?_)
  show fin2 (W4 m ρ c (Proc.devRef .tc main_v12_0)) (W4 m ρ c (Proc.devRef .tc main_v1)) (W4 m ρ c (Proc.devRef .tc main_v12_1)) (W4 m ρ c (Proc.devRef .tc main_arg4)) (W4 m ρ c (Proc.devRef .tc main_arg5)) (W4 m ρ c (Proc.devRef .tc main_arg9)) = _
  rw [W4_v12_0 m ρ c hb, W4_v1, W4_v12_1 m ρ c hb, W4_args m ρ c main_arg4 (by decide), W4_args m ρ c main_arg5 (by decide), W4_args m ρ c main_arg9 (by decide)]
  rfl

/-- The output of the whole layer. -/
theorem out_at (b : Fin 256) (d : Fin 4096) : (W6 m ρ c (Proc.devRef .tc main_v14) : Vec Ideal S256x1x4096 .bf16) (ix3 b 0 d) = kO m ρ c (ix2 b d) := by
  rw [W6_v14, W5_v13 m ρ c hb]; exact cast_out _ b d

/-- The hidden activation. -/
theorem hidden_at (b : Fin 256) (F : Fin 14336) : (W6 m ρ c (Proc.devRef .tc main_v15) : Vec Ideal S256x1x14336 .bf16) (ix3 b 0 F) = kH m ρ c (ix2 b F) := by
  rw [W6_v15, (W5_of m ρ c main_v12_0 (by decide +kernel)).trans (W4_v12_0 m ρ c hb)]; exact cast_h _ b F

/-- The first LoRA product. -/
theorem W6_v10 : W6 m ρ c (Proc.devRef .tc main_v10) = kS m ρ c :=
  (W6_of m ρ c main_v10 (by decide)).trans ((W5_of m ρ c main_v10 (by decide +kernel)).trans ((W4_of m ρ c main_v10 (by decide +kernel)).trans (W3_v10 m ρ c hb)))

/-- The second LoRA product. -/
theorem W6_v12_1 : W6 m ρ c (Proc.devRef .tc main_v12_1) = kT m ρ c :=
  (W6_of m ρ c main_v12_1 (by decide)).trans ((W5_of m ρ c main_v12_1 (by decide +kernel)).trans (W4_v12_1 m ρ c hb))

end Cert.KernelIdeal.Gen
end
-- ==== Proof.Meet.Algebraic.lean ====
/- The reference's four results are the kernel's, for adapters that exist. -/
module

public import proofs.«01_k».proof.Defs
public import proofs.«01_k».proof.Proof.Ref.RefFin
public import proofs.«01_k».proof.Proof.KernelIdeal.Results

@[expose] public section
set_option maxRecDepth 16384
noncomputable section
namespace Cert.Meet
open Idealize.ShloMosaic Idealize.ShloMosaic.TcCoe Idealize.ShloMosaic.Tactic Idealize.SL.Sem
open Cert.Val Cert.ReferenceIdeal.Read
open Cert.KernelIdeal.Gen (W6 kX kI kSC kAt kX_at kI_at kSC_at kAt_at out_at hidden_at W6_v10 W6_v12_1)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (hb : ∀ b : Fin 256, ((m ((c.tc : Thread Cert.KernelIdeal.nD Cert.KernelIdeal.τ).loc Cert.KernelIdeal.main_arg1) : Vec Ideal Cert.KernelIdeal.S256 .i32) (ix1 b) : BitVec 32).toNat < 13)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
  (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
  (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
  (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

include hb h0 h1 h2 h3 h4 h5 h6 h7 h8 h9 h10

theorem meet_out : Cert.ReferenceIdeal.Value.res_main_v99 m' c = W6 m ρ c (Proc.devRef .tc Cert.KernelIdeal.main_v14) := by
  refine (val_main_v99_eq m' c).trans ?_
  rw [h0, h1, h2, h3, h4, h5, h6, h7, h8, h9, h10]
  refine funext fun (y : Cert.KernelIdeal.S256x1x4096.Idx) => ?_
  obtain ⟨b, d, rfl⟩ : ∃ (b : Fin 256) (d : Fin 4096), y = ix3 b 0 d := ⟨y 0, y 2, by idx_ext⟩
  exact (v99_at' _ _ _ _ _ _ _ _ _ _ _ b d).trans ((v98_fin _ _ _ _ _ _ _ _ _ _ _ (kX m ρ c) (kI m ρ c) (kSC m ρ c) (kAt m ρ c)
    (kX_at m ρ c) (kI_at m ρ c) (fun b => kSC_at m ρ c b (hb b)) (kAt_at m ρ c) b d (hb b)).trans (out_at m ρ c hb b d).symm)

omit h4 h5 h8 h9 in
theorem meet_hidden : Cert.ReferenceIdeal.Value.res_main_v100 m' c = W6 m ρ c (Proc.devRef .tc Cert.KernelIdeal.main_v15) := by
  refine (val_main_v100_eq m' c).trans ?_
  rw [h0, h1, h2, h3, h6, h7, h10]
  refine funext fun (y : Cert.KernelIdeal.S256x1x14336.Idx) => ?_
  obtain ⟨b, d, rfl⟩ : ∃ (b : Fin 256) (d : Fin 14336), y = ix3 b 0 d := ⟨y 0, y 2, by idx_ext⟩
  exact (v100_at' _ _ _ _ _ _ _ b d).trans ((v61_fin _ _ _ _ _ _ _ (kX m ρ c) (kI m ρ c) (kSC m ρ c)
    (kX_at m ρ c) (kI_at m ρ c) (fun b => kSC_at m ρ c b (hb b)) b d (hb b)).trans (hidden_at m ρ c hb b d).symm)

omit h2 h3 h4 h5 h7 h8 h9 in
theorem meet_s : val_main_v39 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10))
    = W6 m ρ c (Proc.devRef .tc Cert.KernelIdeal.main_v10) := by
  rw [h0, h1, h6, h10, W6_v10 m ρ c hb]
  refine funext fun (y : Cert.KernelIdeal.S256x128.Idx) => ?_
  obtain ⟨b, d, rfl⟩ : ∃ (b : Fin 256) (d : Fin 128), y = ix2 b d := ⟨y 0, y 1, by idx_ext⟩
  exact v39_fin _ _ _ _ (kX m ρ c) (kI m ρ c) (kSC m ρ c) (kX_at m ρ c) (kI_at m ρ c) (fun b => kSC_at m ρ c b (hb b)) b d (hb b)

omit h4 h5 h9 in
theorem meet_t : Cert.ReferenceIdeal.Value.res_main_v90 m' c = W6 m ρ c (Proc.devRef .tc Cert.KernelIdeal.main_v12_1) := by
  refine (val_main_v90_eq m' c).trans ?_
  rw [h0, h1, h2, h3, h6, h7, h8, h10, W6_v12_1 m ρ c hb]
  refine funext fun (y : Cert.KernelIdeal.S256x64.Idx) => ?_
  obtain ⟨b, d, rfl⟩ : ∃ (b : Fin 256) (d : Fin 64), y = ix2 b d := ⟨y 0, y 1, by idx_ext⟩
  exact v90_fin _ _ _ _ _ _ _ _ (kX m ρ c) (kI m ρ c) (kSC m ρ c) (kAt m ρ c) (kX_at m ρ c) (kI_at m ρ c) (fun b => kSC_at m ρ c b (hb b)) (kAt_at m ρ c) b d (hb b)

end Cert.Meet

namespace Cert.Pre_adapters_named
theorem facts : Facts where
  bcast_S_S256 := by decide
end Cert.Pre_adapters_named

namespace Cert.Meet
open Idealize.ShloMosaic Idealize.ShloMosaic.TcCoe Idealize.ShloMosaic.Tactic Idealize.SL.Sem
open Cert.ReferenceIdeal.Read
open Cert.KernelIdeal.Gen (W6 mem_uc)

theorem both_bits (a b : Bool) (e : BitVec.ofBool a &&& BitVec.ofBool b = 1#1) : a = true ∧ b = true := by
  revert e; cases a <;> cases b <;> decide

/-- What the precondition says of one adapter index. -/
theorem named_lt (w : BitVec 32) (e : IntOp.andi (IntOp.cmpi .sge w 0#32) (IntOp.cmpi .slt w 13#32) = 1#1) : w.toNat < 13 := by
  have k := both_bits (BitVec.sle 0#32 w) (BitVec.slt w 13#32) e
  simp only [BitVec.sle_eq_decide, BitVec.slt_eq_decide,
    decide_eq_true_eq, BitVec.toInt_eq_toNat_cond, BitVec.toNat_ofNat, Nat.reducePow, Nat.reduceMod] at k
  omega

theorem named (m : (ℓ : Loc Cert.KernelIdeal.nD Cert.KernelIdeal.τ Cert.KernelIdeal.sig) → Buf (Elt Ideal) ℓ)
    (h : Cert.Pre_KernelIdeal_adapters_named (hPre_adapters_named := Cert.Pre_adapters_named.facts) m) (c : Dev Cert.KernelIdeal.nD) (b : Fin 256) :
    ((m ((c.tc : Thread Cert.KernelIdeal.nD Cert.KernelIdeal.τ).loc Cert.KernelIdeal.main_arg1) : Vec Ideal Cert.KernelIdeal.S256 .i32) (ix1 b) : BitVec 32).toNat < 13 := by
  have e := congrFun (h c) (ix1 b)
  simp only [Cert.Pre_adapters_named.fn, andi, cmpi, broadcastInDim, constantI] at e
  exact named_lt _ e

theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

theorem algebraic : Cert.algebraic_KernelIdeal_ReferenceIdeal_pre_adapters_named (hKernelIdeal := Cert.KernelIdeal.Gen.facts) (hReferenceIdeal := Cert.ReferenceIdeal.Gen.facts) (hPre_adapters_named := Cert.Pre_adapters_named.facts) := by
  intro m ρ m' ρ' hpre hagree
  have hb := named m hpre
  refine ⟨fun c => W6 m ρ c (Proc.devRef .tc Cert.KernelIdeal.main_v14), fun c => W6 m ρ c (Proc.devRef .tc Cert.KernelIdeal.main_v15),
    fun c => W6 m ρ c (Proc.devRef .tc Cert.KernelIdeal.main_v10), fun c => W6 m ρ c (Proc.devRef .tc Cert.KernelIdeal.main_v12_1), ?_, ?_⟩
  · refine (θ_run Cert.KernelIdeal.defs _ _).mono (fun r h c => ?_) (Cert.KernelIdeal.Gen.run_all (F := Ideal) m ρ)
    have hs := h.1 c
    exact ⟨hs _ (mem_uc Cert.KernelIdeal.main_v14 (by decide)), hs _ (mem_uc Cert.KernelIdeal.main_v15 (by decide)),
      hs _ (mem_uc Cert.KernelIdeal.main_v10 (by decide)), hs _ (mem_uc Cert.KernelIdeal.main_v12_1 (by decide)),
      (hs _ (mem_uc Cert.KernelIdeal.main_arg0 (by decide))).trans (Cert.KernelIdeal.Gen.W6_main_arg0 m ρ c),
      (hs _ (mem_uc Cert.KernelIdeal.main_arg1 (by decide))).trans (Cert.KernelIdeal.Gen.W6_main_arg1 m ρ c),
      (hs _ (mem_uc Cert.KernelIdeal.main_arg2 (by decide))).trans (Cert.KernelIdeal.Gen.W6_main_arg2 m ρ c),
      (hs _ (mem_uc Cert.KernelIdeal.main_arg3 (by decide))).trans (Cert.KernelIdeal.Gen.W6_main_arg3 m ρ c),
      (hs _ (mem_uc Cert.KernelIdeal.main_arg4 (by decide))).trans (Cert.KernelIdeal.Gen.W6_main_arg4 m ρ c),
      (hs _ (mem_uc Cert.KernelIdeal.main_arg5 (by decide))).trans (Cert.KernelIdeal.Gen.W6_main_arg5 m ρ c),
      (hs _ (mem_uc Cert.KernelIdeal.main_arg6 (by decide))).trans (Cert.KernelIdeal.Gen.W6_main_arg6 m ρ c),
      (hs _ (mem_uc Cert.KernelIdeal.main_arg7 (by decide))).trans (Cert.KernelIdeal.Gen.W6_main_arg7 m ρ c),
      (hs _ (mem_uc Cert.KernelIdeal.main_arg8 (by decide))).trans (Cert.KernelIdeal.Gen.W6_main_arg8 m ρ c),
      (hs _ (mem_uc Cert.KernelIdeal.main_arg9 (by decide))).trans (Cert.KernelIdeal.Gen.W6_main_arg9 m ρ c),
      (hs _ (mem_uc Cert.KernelIdeal.main_arg10 (by decide))).trans (Cert.KernelIdeal.Gen.W6_main_arg10 m ρ c)⟩
  · refine (θ_run Cert.ReferenceIdeal.defs _ _).mono (fun r h c => ?_) (Cert.ReferenceIdeal.Value.run (F := Ideal) m' ρ')
    obtain ⟨h0, h1, h2, h3, h4, h5, h6, h7, h8, h9, h10⟩ := hagree c
    obtain ⟨r0, r1, r2, r3, hrest⟩ := h c
    exact ⟨r0.trans (meet_out m ρ m' c (hb c) h0 h1 h2 h3 h4 h5 h6 h7 h8 h9 h10),
      r1.trans (meet_hidden m ρ m' c (hb c) h0 h1 h2 h3 h6 h7 h10),
      r2.trans ((val_main_v39_eq _ _ _ _).trans (meet_s m ρ m' c (hb c) h0 h1 h6 h10)),
      r3.trans (meet_t m ρ m' c (hb c) h0 h1 h2 h3 h6 h7 h8 h10), hrest⟩

end Cert.Meet
end
-- ==== Proof.lean ====
/- The claims about the kernel, its ideal reading and the reference, put together. -/
module

public import proofs.«01_k».proof.Defs
public import proofs.«01_k».proof.Proof.Kernel.Frame
public import proofs.«01_k».proof.Proof.KernelIdeal.Frame
public import proofs.«01_k».proof.Proof.Meet.Algebraic

@[expose] public section

noncomputable section

namespace Cert.Proof

open Idealize.ShloMosaic Idealize.SL.Sem

/-- Every claim: the three programs end, leave their arguments as they were and every semaphore at zero; the ideal kernel
    is the kernel's own program; and its four results are the reference's, for adapters that exist. -/
theorem claim : Cert.Claim := ⟨Cert.Kernel.Gen.facts, Cert.KernelIdeal.Gen.facts, Cert.ReferenceIdeal.Gen.facts, Cert.Pre_adapters_named.facts,
  fun m ρ _ => Cert.Kernel.Gen.frame (F := Bits) m ρ,
  fun m ρ _ => Cert.KernelIdeal.Gen.frame (F := Ideal) m ρ,
  fun m ρ _ => Cert.KernelIdeal.Gen.frame (F := Ideal) m ρ,
  Cert.Meet.frame_reference,
  fun m ρ _ => Cert.Meet.frame_reference m ρ trivial,
  trivial,
  Cert.Meet.algebraic⟩

end Cert.Proof

end
